-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S1 : Shape := ⟨1, ![1]⟩
abbrev S16 : Shape := ⟨1, ![16]⟩
abbrev S4x15 : Shape := ⟨2, ![4, 15]⟩
abbrev S15 : Shape := ⟨1, ![15]⟩
abbrev S_ : Shape := ⟨0, ![]⟩

class Facts : Prop where
  slices_S16_S15_0 : S16.Slices ![0] S15
  slices_S16_S15_1 : S16.Slices ![1] S15
  bcast_S_S1 : S_.BroadcastsInDim S1 (![] : Fin 0 → Fin S1.rank)
  bcast_S_S16 : S_.BroadcastsInDim S16 (![] : Fin 0 → Fin S16.rank)
  bcast_S_S4x15 : S_.BroadcastsInDim S4x15 (![] : Fin 0 → Fin S4x15.rank)

variable [Facts]

def fn {F : FTy → Type} [FloatOps F] (main_arg0 : FVec F S1 .f32) (main_arg1 : FVec F S16 .f32) (main_arg2 : FVec F S4x15 .f32) : IVec S15 1 × IVec S1 1 × IVec S16 1 × IVec S4x15 1 :=
  let main_v0 : FVec F S15 .f32 := (extractStridedSlice S15 ![0] · slices_S16_S15_0) main_arg1
  let main_v1 : FVec F S15 .f32 := (extractStridedSlice S15 ![1] · slices_S16_S15_1) main_arg1
  let main_v2 : IVec S15 1 := cmpf .ole main_v0 main_v1
  let main_v3 : FVec F S1 .f32 := Host.absf main_arg0
  let main_cst : FVec F S_ .f32 := constant S_ .f32 0x7F800000#32
  let main_v4 : FVec F S1 .f32 := broadcastInDim S1 ![] bcast_S_S1 main_cst
  let main_v5 : IVec S1 1 := cmpf .olt main_v3 main_v4
  let main_v6 : FVec F S16 .f32 := Host.absf main_arg1
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  let main_v9 : FVec F S4x15 .f32 := Host.absf main_arg2
  let main_cst_1 : FVec F S_ .f32 := constant S_ .f32 0x7F800000#32
  let main_v10 : FVec F S4x15 .f32 := broadcastInDim S4x15 ![] bcast_S_S4x15 main_cst_1
  let main_v11 : IVec S4x15 1 := cmpf .olt main_v9 main_v10
  (main_v2, main_v5, main_v8, main_v11)
-- ==== Kernel.lean ====
abbrev S1 : Shape := ⟨1, ![1]⟩
abbrev S16 : Shape := ⟨1, ![16]⟩
abbrev S4x15 : Shape := ⟨2, ![4, 15]⟩
abbrev S1x16 : Shape := ⟨2, ![1, 16]⟩
abbrev S_ : Shape := ⟨0, ![]⟩
abbrev S4x16 : Shape := ⟨2, ![4, 16]⟩
abbrev S6x16 : Shape := ⟨2, ![6, 16]⟩
abbrev S96 : Shape := ⟨1, ![96]⟩

abbrev nBuf : Table → Nat
  | .hbm => 12
  | .local .scScalar .smem => 2
  | _ => 0

abbrev bufTy : (tb : Table) → Fin (nBuf tb) → BufTy
  | .hbm, ⟨0, _⟩ => ⟨S1, .f32⟩
  | .hbm, ⟨1, _⟩ => ⟨S16, .f32⟩
  | .hbm, ⟨2, _⟩ => ⟨S4x15, .f32⟩
  | .hbm, ⟨3, _⟩ => ⟨S1x16, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S4x16, .f32⟩
  | .hbm, ⟨8, _⟩ => ⟨S6x16, .f32⟩
  | .hbm, ⟨9, _⟩ => ⟨S96, .f32⟩
  | .hbm, ⟨10, _⟩ => ⟨S1, .f32⟩
  | .hbm, ⟨11, _⟩ => ⟨S_, .f32⟩
  | .local .scScalar .smem, ⟨0, _⟩ => ⟨S96, .f32⟩
  | .local .scScalar .smem, ⟨1, _⟩ => ⟨S1, .f32⟩
  | _, _ => ⟨S1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v4_scs : Ref sig .scScalar := ⟨.hbm, 9, rfl⟩
abbrev main_v5_scs : Ref sig .scScalar := ⟨.hbm, 10, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v4 : BitVec 1) (v8 : BitVec 1) (v12 : BitVec 1) (v16 : BitVec 1) (v20 : BitVec 1) (v24 : BitVec 1) (v28 : BitVec 1) (v32 : BitVec 1) (v36 : BitVec 1) (v40 : BitVec 1) (v44 : BitVec 1) (v48 : BitVec 1) (v52 : BitVec 1) (v56 : BitVec 1) (v60 : BitVec 1) (v64 : BitVec 1) (c16_i32_33 : BitVec 32) : Fin 1 → Nat :=
  let c14_i32 : BitVec 32 := 14#32
  let c0_i32_32 : BitVec 32 := 0#32
  let c1_i32 : BitVec 32 := 1#32
  let c0_i32_0 : BitVec 32 := 0#32
  let v5 : BitVec 32 := Scalar.select v4 c1_i32 c0_i32_0
  let c1_i32_1 : BitVec 32 := 1#32
  let c0_i32_2 : BitVec 32 := 0#32
  let v9 : BitVec 32 := Scalar.select v8 c1_i32_1 c0_i32_2
  let v66 : BitVec 32 := Scalar.addi v5 v9
  let c1_i32_3 : BitVec 32 := 1#32
  let c0_i32_4 : BitVec 32 := 0#32
  let v13 : BitVec 32 := Scalar.select v12 c1_i32_3 c0_i32_4
  let c1_i32_5 : BitVec 32 := 1#32
  let c0_i32_6 : BitVec 32 := 0#32
  let v17 : BitVec 32 := Scalar.select v16 c1_i32_5 c0_i32_6
  let v67 : BitVec 32 := Scalar.addi v13 v17
  let v74 : BitVec 32 := Scalar.addi v66 v67
  let c1_i32_7 : BitVec 32 := 1#32
  let c0_i32_8 : BitVec 32 := 0#32
  let v21 : BitVec 32 := Scalar.select v20 c1_i32_7 c0_i32_8
  let c1_i32_9 : BitVec 32 := 1#32
  let c0_i32_10 : BitVec 32 := 0#32
  let v25 : BitVec 32 := Scalar.select v24 c1_i32_9 c0_i32_10
  let v68 : BitVec 32 := Scalar.addi v21 v25
  let c1_i32_11 : BitVec 32 := 1#32
  let c0_i32_12 : BitVec 32 := 0#32
  let v29 : BitVec 32 := Scalar.select v28 c1_i32_11 c0_i32_12
  let c1_i32_13 : BitVec 32 := 1#32
  let c0_i32_14 : BitVec 32 := 0#32
  let v33 : BitVec 32 := Scalar.select v32 c1_i32_13 c0_i32_14
  let v69 : BitVec 32 := Scalar.addi v29 v33
  let v75 : BitVec 32 := Scalar.addi v68 v69
  let v78 : BitVec 32 := Scalar.addi v74 v75
  let c1_i32_15 : BitVec 32 := 1#32
  let c0_i32_16 : BitVec 32 := 0#32
  let v37 : BitVec 32 := Scalar.select v36 c1_i32_15 c0_i32_16
  let c1_i32_17 : BitVec 32 := 1#32
  let c0_i32_18 : BitVec 32 := 0#32
  let v41 : BitVec 32 := Scalar.select v40 c1_i32_17 c0_i32_18
  let v70 : BitVec 32 := Scalar.addi v37 v41
  let c1_i32_19 : BitVec 32 := 1#32
  let c0_i32_20 : BitVec 32 := 0#32
  let v45 : BitVec 32 := Scalar.select v44 c1_i32_19 c0_i32_20
  let c1_i32_21 : BitVec 32 := 1#32
  let c0_i32_22 : BitVec 32 := 0#32
  let v49 : BitVec 32 := Scalar.select v48 c1_i32_21 c0_i32_22
  let v71 : BitVec 32 := Scalar.addi v45 v49
  let v76 : BitVec 32 := Scalar.addi v70 v71
  let c1_i32_23 : BitVec 32 := 1#32
  let c0_i32_24 : BitVec 32 := 0#32
  let v53 : BitVec 32 := Scalar.select v52 c1_i32_23 c0_i32_24
  let c1_i32_25 : BitVec 32 := 1#32
  let c0_i32_26 : BitVec 32 := 0#32
  let v57 : BitVec 32 := Scalar.select v56 c1_i32_25 c0_i32_26
  let v72 : BitVec 32 := Scalar.addi v53 v57
  let c1_i32_27 : BitVec 32 := 1#32
  let c0_i32_28 : BitVec 32 := 0#32
  let v61 : BitVec 32 := Scalar.select v60 c1_i32_27 c0_i32_28
  let c1_i32_29 : BitVec 32 := 1#32
  let c0_i32_30 : BitVec 32 := 0#32
  let v65 : BitVec 32 := Scalar.select v64 c1_i32_29 c0_i32_30
  let v73 : BitVec 32 := Scalar.addi v61 v65
  let v77 : BitVec 32 := Scalar.addi v72 v73
  let v79 : BitVec 32 := Scalar.addi v76 v77
  let v80 : BitVec 32 := Scalar.addi v78 v79
  let c1_i32_31 : BitVec 32 := 1#32
  let v81 : BitVec 32 := Scalar.subi v80 c1_i32_31
  let v82 : BitVec 32 := Scalar.maxsi c0_i32_32 v81
  let v83 : BitVec 32 := Scalar.minsi c14_i32 v82
  let v84 : BitVec 32 := Scalar.addi c16_i32_33 v83
  let v85 : Index := Scalar.indexCast v84
  ![v85.toNat]

def k0_chk1 (v4 : BitVec 1) (v8 : BitVec 1) (v12 : BitVec 1) (v16 : BitVec 1) (v20 : BitVec 1) (v24 : BitVec 1) (v28 : BitVec 1) (v32 : BitVec 1) (v36 : BitVec 1) (v40 : BitVec 1) (v44 : BitVec 1) (v48 : BitVec 1) (v52 : BitVec 1) (v56 : BitVec 1) (v60 : BitVec 1) (v64 : BitVec 1) : Prop :=
  (∀ (r : Fin 5), ∀ a, (k0_off1 v4 v8 v12 v16 v20 v24 v28 v32 v36 v40 v44 v48 v52 v56 v60 v64 (BitVec.ofNat 32 (16 + 16 * r.val))) a + S1.size a ≤ S96.size a)
theorem k0_off1_inb : ∀ (v4 : BitVec 1) (v8 : BitVec 1) (v12 : BitVec 1) (v16 : BitVec 1) (v20 : BitVec 1) (v24 : BitVec 1) (v28 : BitVec 1) (v32 : BitVec 1) (v36 : BitVec 1) (v40 : BitVec 1) (v44 : BitVec 1) (v48 : BitVec 1) (v52 : BitVec 1) (v56 : BitVec 1) (v60 : BitVec 1) (v64 : BitVec 1) (k0_hw1 : k0_chk1 v4 v8 v12 v16 v20 v24 v28 v32 v36 v40 v44 v48 v52 v56 v60 v64), ∀ (r : Fin 5), ∀ a, (k0_off1 v4 v8 v12 v16 v20 v24 v28 v32 v36 v40 v44 v48 v52 v56 v60 v64 (BitVec.ofNat 32 (16 + 16 * r.val))) a + S1.size a ≤ S96.size a := fun v4 v8 v12 v16 v20 v24 v28 v32 v36 v40 v44 v48 v52 v56 v60 v64 k0_hw1 r => k0_hw1 r

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S1 : Shape := ⟨1, ![1]⟩
abbrev S16 : Shape := ⟨1, ![16]⟩
abbrev S4x15 : Shape := ⟨2, ![4, 15]⟩
abbrev S_ : Shape := ⟨0, ![]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1, .f32⟩
  | .hbm, ⟨1, _⟩ => ⟨S16, .f32⟩
  | .hbm, ⟨2, _⟩ => ⟨S4x15, .f32⟩
  | .hbm, ⟨3, _⟩ => ⟨S_, .f32⟩
  | .hbm, ⟨4, _⟩ => ⟨S16, .f32⟩
  | .hbm, ⟨5, _⟩ => ⟨S16, .i1⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x1, .f32⟩
  | .hbm, ⟨39, _⟩ => ⟨S_, .f32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1, .f32⟩
  | .hbm, ⟨95, _⟩ => ⟨S_, .f32⟩
  | .hbm, ⟨96, _⟩ => ⟨S_, .i1⟩
  | .hbm, ⟨97, _⟩ => ⟨S_, .f32⟩
  | .hbm, ⟨98, _⟩ => ⟨S_, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_c_6 : Ref sig .tc := ⟨.hbm, 26, rfl⟩
abbrev main_v13 : Ref sig .tc := ⟨.hbm, 27, rfl⟩
abbrev main_c_7 : Ref sig .tc := ⟨.hbm, 28, rfl⟩
abbrev main_c_8 : Ref sig .tc := ⟨.hbm, 29, rfl⟩
abbrev main_v14 : Ref sig .tc := ⟨.hbm, 30, rfl⟩
abbrev main_c_9 : Ref sig .tc := ⟨.hbm, 31, rfl⟩
abbrev main_v15 : Ref sig .tc := ⟨.hbm, 32, rfl⟩
abbrev main_c_10 : Ref sig .tc := ⟨.hbm, 33, rfl⟩
abbrev main_v16 : Ref sig .tc := ⟨.hbm, 34, rfl⟩
abbrev main_c_11 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_12 : Ref sig .tc := ⟨.hbm, 40, rfl⟩
abbrev main_c_13 : Ref sig .tc := ⟨.hbm, 41, rfl⟩
abbrev main_v21 : Ref sig .tc := ⟨.hbm, 42, rfl⟩
abbrev main_c_14 : Ref sig .tc := ⟨.hbm, 43, rfl⟩
abbrev main_c_15 : Ref sig .tc := ⟨.hbm, 44, rfl⟩
abbrev main_v22 : Ref sig .tc := ⟨.hbm, 45, rfl⟩
abbrev main_c_16 : Ref sig .tc := ⟨.hbm, 46, rfl⟩
abbrev main_v23 : Ref sig .tc := ⟨.hbm, 47, rfl⟩
abbrev main_c_17 : Ref sig .tc := ⟨.hbm, 48, rfl⟩
abbrev main_v24 : Ref sig .tc := ⟨.hbm, 49, rfl⟩
abbrev main_c_18 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_19 : Ref sig .tc := ⟨.hbm, 57, rfl⟩
abbrev main_c_20 : Ref sig .tc := ⟨.hbm, 58, rfl⟩
abbrev main_v31 : Ref sig .tc := ⟨.hbm, 59, rfl⟩
abbrev main_c_21 : Ref sig .tc := ⟨.hbm, 60, rfl⟩
abbrev main_c_22 : Ref sig .tc := ⟨.hbm, 61, rfl⟩
abbrev main_v32 : Ref sig .tc := ⟨.hbm, 62, rfl⟩
abbrev main_c_23 : Ref sig .tc := ⟨.hbm, 63, rfl⟩
abbrev main_v33 : Ref sig .tc := ⟨.hbm, 64, rfl⟩
abbrev main_c_24 : Ref sig .tc := ⟨.hbm, 65, rfl⟩
abbrev main_v34 : Ref sig .tc := ⟨.hbm, 66, rfl⟩
abbrev main_c_25 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_26 : Ref sig .tc := ⟨.hbm, 75, rfl⟩
abbrev main_c_27 : Ref sig .tc := ⟨.hbm, 76, rfl⟩
abbrev main_v42 : Ref sig .tc := ⟨.hbm, 77, rfl⟩
abbrev main_c_28 : Ref sig .tc := ⟨.hbm, 78, rfl⟩
abbrev main_c_29 : Ref sig .tc := ⟨.hbm, 79, rfl⟩
abbrev main_v43 : Ref sig .tc := ⟨.hbm, 80, rfl⟩
abbrev main_c_30 : Ref sig .tc := ⟨.hbm, 81, rfl⟩
abbrev main_v44 : Ref sig .tc := ⟨.hbm, 82, rfl⟩
abbrev main_c_31 : Ref sig .tc := ⟨.hbm, 83, rfl⟩
abbrev main_v45 : Ref sig .tc := ⟨.hbm, 84, rfl⟩
abbrev main_c_32 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst : Ref sig .tc := ⟨.hbm, 97, rfl⟩
abbrev main_v57 : Ref sig .tc := ⟨.hbm, 98, rfl⟩

abbrev nD : Nat := 1
abbrev τ : Topo := Topo.v7x

variable {F : FTy → Type} [FloatOps F]
-- ==== Proof.Index.lean ====
/- The interval's index.  The kernel counts the knots not above the point — sixteen comparisons, added in pairs — and
   clamps the count less one to `0 … 14`.  Here: the pairwise sum is the number of comparisons that hold, the clamp is
   that of natural numbers, and so the five places it reads in the packed table lie inside the table whatever the
   comparisons say. -/
module

public import proofs.«01_k».proof.Proof.Gen.KernelIdeal.Skeleton
public import Mathlib.Algebra.BigOperators.Fin

@[expose] public section

noncomputable section

namespace Cert.Proof.Index

open Idealize.ShloMosaic Cert.KernelIdeal Cert.KernelIdeal.Gen

/-- How many of sixteen comparisons hold. -/
def hits (h : Fin 16 → BitVec 1) : ℕ := ∑ j, (h j).toNat

/-- The interval they name: the count less one, kept within `0 … 14`. -/
def place (h : Fin 16 → BitVec 1) : ℕ := min 14 (hits h - 1)

theorem hits_le (h : Fin 16 → BitVec 1) : hits h ≤ 16 := by
  refine (Finset.sum_le_card_nsmul _ _ 1 fun j _ => ?_).trans (by simp)
  have := (h j).isLt
  omega

theorem place_le (h : Fin 16 → BitVec 1) : place h ≤ 14 := min_le_left _ _

/-- A comparison as a word: the one or the zero the kernel selects. -/
theorem select_toNat (b : BitVec 1) : (Scalar.select b 1#32 0#32).toNat = b.toNat := by
  revert b; decide

/-- The sixteen words added in pairs, the pairs in pairs, and so on, as the kernel adds them. -/
def tree (w : Fin 16 → BitVec 32) : BitVec 32 :=
  Scalar.addi
    (Scalar.addi (Scalar.addi (Scalar.addi (w 0) (w 1)) (Scalar.addi (w 2) (w 3)))
      (Scalar.addi (Scalar.addi (w 4) (w 5)) (Scalar.addi (w 6) (w 7))))
    (Scalar.addi (Scalar.addi (Scalar.addi (w 8) (w 9)) (Scalar.addi (w 10) (w 11)))
      (Scalar.addi (Scalar.addi (w 12) (w 13)) (Scalar.addi (w 14) (w 15))))

/-- Two words whose sum stays below `2 ^ 32` add as numbers. -/
theorem addi_toNat (x y : BitVec 32) (h : x.toNat + y.toNat < 2 ^ 32) :
    (Scalar.addi x y).toNat = x.toNat + y.toNat := by
  change (x + y).toNat = _
  rw [BitVec.toNat_add, Nat.mod_eq_of_lt h]

/-- The kernel's count as a number. -/
theorem tree_toNat (h : Fin 16 → BitVec 1) :
    (tree fun j => Scalar.select (h j) 1#32 0#32).toNat = hits h := by
  have e : ∀ j, (Scalar.select (h j) 1#32 0#32).toNat = (h j).toNat := fun j => select_toNat (h j)
  have l : ∀ j, (h j).toNat ≤ 1 := fun j => by have := (h j).isLt; omega
  have s : hits h = (h 0).toNat + (h 1).toNat + (h 2).toNat + (h 3).toNat + (h 4).toNat + (h 5).toNat + (h 6).toNat
      + (h 7).toNat + (h 8).toNat + (h 9).toNat + (h 10).toNat + (h 11).toNat + (h 12).toNat + (h 13).toNat
      + (h 14).toNat + (h 15).toNat := by
    simp only [hits, Fin.sum_univ_succ, Fin.sum_univ_zero]
    simp only [add_assoc, add_zero]
    rfl
  have l0 := l 0; have l1 := l 1; have l2 := l 2; have l3 := l 3; have l4 := l 4; have l5 := l 5; have l6 := l 6
  have l7 := l 7; have l8 := l 8; have l9 := l 9; have l10 := l 10; have l11 := l 11; have l12 := l 12
  have l13 := l 13; have l14 := l 14; have l15 := l 15
  rw [s]
  simp only [tree, Scalar.addi, IntOp.addi, BitVec.toNat_add, e]
  omega

/-- The clamp of a count less one, at any base: a count is at most sixteen, so nothing wraps. -/
theorem clamp_toNat (t k : BitVec 32) (ht : t.toNat ≤ 16) (hk : k.toNat ≤ 80) :
    (Scalar.addi k (Scalar.minsi 14#32 (Scalar.maxsi 0#32 (Scalar.subi t 1#32)))).toNat
      = k.toNat + min 14 (t.toNat - 1) := by
  have hc : ∀ n, n ≤ 16 → (Scalar.minsi 14#32 (Scalar.maxsi 0#32 (Scalar.subi (BitVec.ofNat 32 n) 1#32))).toNat
      = min 14 (n - 1) := by
    decide
  have hn := hc t.toNat ht
  rw [BitVec.ofNat_toNat, BitVec.setWidth_eq] at hn
  rw [addi_toNat _ _ (by rw [hn]; omega), hn]

/-- Where the kernel reads at base `k`: the base and the interval. -/
theorem off_eq (h : Fin 16 → BitVec 1) (k : BitVec 32) (hk : k.toNat ≤ 80) :
    k0_off1 (h 0) (h 1) (h 2) (h 3) (h 4) (h 5) (h 6) (h 7) (h 8) (h 9) (h 10) (h 11) (h 12) (h 13) (h 14) (h 15) k
      = ![k.toNat + place h] := by
  have e := clamp_toNat (tree fun j => Scalar.select (h j) 1#32 0#32) k (by rw [tree_toNat]; exact hits_le h) hk
  rw [tree_toNat] at e
  exact congrArg (fun n : ℕ => ![n]) e

end Cert.Proof.Index

namespace Cert.KernelIdeal.Gen

open Idealize.ShloMosaic Cert.Proof.Index

/-- The kernel's own check of its five reads holds of every sixteen comparisons. -/
theorem k0_chk1_all (v4 v8 v12 v16 v20 v24 v28 v32 v36 v40 v44 v48 v52 v56 v60 v64 : BitVec 1) :
    k0_chk1 v4 v8 v12 v16 v20 v24 v28 v32 v36 v40 v44 v48 v52 v56 v60 v64 := by
  intro r a
  have hk : (BitVec.ofNat 32 (16 + 16 * r.val)).toNat = 16 + 16 * r.val := by
    rw [BitVec.toNat_ofNat]; have := r.isLt; omega
  have e := off_eq ![v4, v8, v12, v16, v20, v24, v28, v32, v36, v40, v44, v48, v52, v56, v60, v64]
    (BitVec.ofNat 32 (16 + 16 * r.val)) (by rw [hk]; have := r.isLt; omega)
  have hp := place_le ![v4, v8, v12, v16, v20, v24, v28, v32, v36, v40, v44, v48, v52, v56, v60, v64]
  rw [show k0_off1 v4 v8 v12 v16 v20 v24 v28 v32 v36 v40 v44 v48 v52 v56 v60 v64 (BitVec.ofNat 32 (16 + 16 * r.val)) = _
    from e, hk]
  obtain rfl : a = 0 := Subsingleton.elim _ _
  have := r.isLt
  change 16 + 16 * r.val + _ + 1 ≤ 96
  omega

end Cert.KernelIdeal.Gen

end
-- ==== Proof.Setup.lean ====
/- What the launch is made of, before anything runs: the program as the launch theorem reads it, the resources, the
   names of the arrays, and what the one call hands the scalar subcore and takes back — the packed table and the result
   cell, whole, with what they hold. -/
module

public import proofs.«01_k».proof.Defs
public import proofs.«01_k».proof.Proof.Index
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, the launch's semaphores, the resources -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are apart and none is a kernel's own; no array of a sequencer is its tiles'. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' part of the resources; the other part counts the transfers. -/
abbrev EH : Emb UH (MT nD τ sig (HIx 1) (Elt F) ℕ UU ℕ) := embL

/-! ## The arrays of the call -/

abbrev tabLoc (d : Dev nD) : Loc nD τ sig := (SparseCore.T d).loc main_v4
abbrev resLoc (d : Dev nD) : Loc nD τ sig := (SparseCore.T d).loc main_v5

/-- The packed table, whole, holding `p`; the result cell, whole, holding `f`. -/
abbrev tabPts (d : Dev nD) (p : Buf (Elt F) (tabLoc d)) : sProp 𝕄 := tabLoc d ↦{fullShare} p
abbrev resPts (d : Dev nD) (f : Buf (Elt F) (resLoc d)) : sProp 𝕄 := resLoc d ↦{fullShare} f

/-- The call: given the table at `p d` and the result cell at whatever it held, the subcore gives the table back as
    it was and the result cell at `o d`. -/
def P (p : (d : Dev nD) → Buf (Elt F) (tabLoc d)) (o : (d : Dev nD) → Buf (Elt F) (resLoc d)) :
    (K (F := F)).Pay (nD := nD) (Val := Elt F) (Name := ℕ) (U := UU) where
  st := fun _ d _ => iprop(tabPts d (p d) ∗ ∃ f, resPts d f)
  dn := fun _ d _ => iprop(tabPts d (p d) ∗ resPts d (o d))
  go := fun _ _ _ _ => iprop(emp)
  td := fun _ _ _ _ => iprop(emp)
  x := fun _ _ => iprop(emp)

instance P_storable (p : (d : Dev nD) → Buf (Elt F) (tabLoc d)) (o : (d : Dev nD) → Buf (Elt F) (resLoc d)) :
    (P p o).IsStorable where
  st _ _ _ := by unfold P; infer_instance
  dn _ _ _ := by unfold P; infer_instance
  go _ _ _ _ := by unfold P; infer_instance
  td _ _ _ _ := by unfold P; infer_instance

end Cert.Proof.Run

end
-- ==== Proof.Body.lean ====
/- The kernel on its scalar subcore. -/
module

public import proofs.«01_k».proof.Proof.Setup

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's four memrefs, spelt as the body table passes them
local notation "tabW" => (Memref.whole Cert.KernelIdeal.main_v4_scs : Memref Cert.KernelIdeal.sig Kind.scScalar Space.hbm Cert.KernelIdeal.S96 EltTy.f32)
local notation "resW" => (Memref.whole Cert.KernelIdeal.main_v5_scs : Memref Cert.KernelIdeal.sig Kind.scScalar Space.hbm Cert.KernelIdeal.S1 EltTy.f32)
local notation "tabS" => (Memref.whole Cert.KernelIdeal.cc0_scratch0 : Memref Cert.KernelIdeal.sig Kind.scScalar Space.smem Cert.KernelIdeal.S96 EltTy.f32)
local notation "resS" => (Memref.whole Cert.KernelIdeal.cc0_scratch1 : Memref Cert.KernelIdeal.sig Kind.scScalar Space.smem Cert.KernelIdeal.S1 EltTy.f32)

variable (d : Dev nD) (c : Fin τ.nSC)

theorem pts_tab (p : Buf (Elt F) (tabLoc d)) :
    ((tabW).view.loc (S d c) ↦{fullShare} p : sProp 𝕄) = tabLoc d ↦{fullShare} p := by
  simp only [Memref.view_whole, View.set_whole]

theorem pts_res (f : Buf (Elt F) (resLoc d)) :
    ((resW).view.loc (S d c) ↦{fullShare} f : sProp 𝕄) = resLoc d ↦{fullShare} f := by
  simp only [Memref.view_whole, View.set_whole]

variable [FloatOps F]

/-- The table's word at an offset. -/
def get (p : FVec F S96 .f32) (off : Fin 1 → ℕ) (h : ∀ a, off a + S1.size a ≤ S96.size a) : F .f32 :=
  p fun a => ⟨off a, Nat.lt_of_succ_le (by have := h a; fin_cases a; exact this)⟩

/-- The comparison of knot `j` with the point, both read from the table. -/
def flag (p : FVec F S96 .f32) (j : Fin 16) : BitVec 1 :=
  Scalar.cmpf .ole (get p ![16 + j.val] fun a => by have := j.isLt; fin_cases a; show 16 + j.val + 1 ≤ 96; omega) (get p ![0] inb_S96_S1_0)

def offs (p : FVec F S96 .f32) (k : BitVec 32) : Fin 1 → ℕ :=
  k0_off1 (flag p 0) (flag p 1) (flag p 2) (flag p 3) (flag p 4) (flag p 5) (flag p 6) (flag p 7) (flag p 8) (flag p 9) (flag p 10) (flag p 11) (flag p 12) (flag p 13) (flag p 14) (flag p 15) k

theorem offs_inb (p : FVec F S96 .f32) (r : Fin 5) : ∀ a, offs p (BitVec.ofNat 32 (16 + 16 * r.val)) a + S1.size a ≤ S96.size a :=
  k0_chk1_all _ _ _ _ _ _ _ _ _ _ _ _ _ _ _ _ r

def out (p : FVec F S96 .f32) : F .f32 :=
  Scalar.select (Scalar.cmpi .slt (Index.tree fun j => Scalar.select (flag p j) 1#32 0#32) 16#32)
    (k0_pay1 (get p ![0] inb_S96_S1_0) (get p (offs p 16#32) (offs_inb p 0)) (get p (offs p 32#32) (offs_inb p 1))
      (get p (offs p 48#32) (offs_inb p 2)) (get p (offs p 64#32) (offs_inb p 3)) (get p (offs p 80#32) (offs_inb p 4)))
    (Scalar.ofBits .f32 0x00000000#32)

def coordsS (c : Fin (grid0.bound 0)) : grid0.Coords := fun | 0 => c | ⟨_ + 1, h⟩ => absurd h (Nat.not_lt.2 (Nat.le_add_left _ _))

/-- A word loaded from the table's scratch. -/
theorem read_get (p : FVec F S96 .f32) (off : Fin 1 → ℕ) (h : ∀ a, off a + S1.size a ≤ S96.size a) (hn : 0 < (Rect.unit (s := S96) off S1.size h).shape.numel) :
    View.readAt (Elt F) (Memref.whole cc0_scratch0).view (Rect.unit (s := S96) off S1.size h).toLoadRect p (Shape.Idx.first hn) = get p off h := by
  refine congrArg p ?_
  funext a
  fin_cases a
  exact Fin.ext (by show off 0 + 1 * 0 = off 0; omega)

/-- The one word of a buffer of one word. -/
abbrev pt : S1.Idx := fun | 0 => (0 : Fin 1)

/-- The one-word scratch read back after its word is stored. -/
theorem read_piece (e : FVec F S1 .f32) (w : S1.Idx → Elt F EltTy.f32) :
    View.read (Elt F) (View.whole cc0_scratch1) (View.writes (View.whole cc0_scratch1) (Elt F) e [⟨Rect.unit (s := S1) ![0] S1.size inb_S1_S1_0, w⟩])
      pt = w pt := by
  have h : ((View.whole cc0_scratch1).slice (Rect.unit (s := S1) ![0] S1.size inb_S1_S1_0)).emb pt = pt := by
    funext a; fin_cases a; exact Subsingleton.elim (α := Fin 1) _ _
  have key := View.write_emb_of_mem (v := (View.whole cc0_scratch1).slice (Rect.unit (s := S1) ![0] S1.size inb_S1_S1_0)) e w (Finset.mem_univ pt)
  rw [h] at key
  exact key

theorem seq_run (c : Fin (grid0.bound 0)) (p : Buf (Elt F) (tabLoc d)) (f : Buf (Elt F) (resLoc d))
   (g : Buf (Elt F) ((S d (c.castLE hcore0)).loc cc0_scratch0)) (e : Buf (Elt F) ((S d (c.castLE hcore0)).loc cc0_scratch1))
   (O : CellTallies nD τ sig (HIx 1)) (W : Waits sig (HIx 1)) :
    (iprop(Transfers.MayWaits (S d (c.castLE hcore0)) (none : HIx 1) O
        ∗ ((tabW).view.loc (S d (c.castLE hcore0)) ↦{fullShare} p)
        ∗ ((resW).view.loc (S d (c.castLE hcore0)) ↦{fullShare} f)
        ∗ ((tabS).view.loc (S d (c.castLE hcore0)) ↦{fullShare} g)
        ∗ ((resS).view.loc (S d (c.castLE hcore0)) ↦{fullShare} e)
        ∗ semVal (S d (c.castLE hcore0), SemLoc.dma cc0_scoped0.sem) 0
        ∗ semVal (S d (c.castLE hcore0), SemLoc.dma cc0_scoped1.sem) 0
        ∗ owes (S d (c.castLE hcore0)) O W) : sProp 𝕄)
      ⊢ wp frame (wpE (defs₀ (F := F)) 𝒱₀ (S d (c.castLE hcore0)) none) Set.univ
          (cc0__akima_scs (coordsS c) tabW (Memref.isWhole_whole _) resW (Memref.isWhole_whole _)
            tabS (Memref.isWhole_whole _) resS (Memref.isWhole_whole _) cc0_scoped0 cc0_scoped1)
          fun _ => iprop(((tabW).view.loc (S d (c.castLE hcore0)) ↦{fullShare} p)
            ∗ ((resW).view.loc (S d (c.castLE hcore0)) ↦{fullShare} fun _ => out p)
            ∗ (∃ g, (tabS).view.loc (S d (c.castLE hcore0)) ↦{fullShare} g)
            ∗ (∃ e, (resS).view.loc (S d (c.castLE hcore0)) ↦{fullShare} e)
            ∗ semVal (S d (c.castLE hcore0), SemLoc.dma cc0_scoped0.sem) 0
            ∗ semVal (S d (c.castLE hcore0), SemLoc.dma cc0_scoped1.sem) 0
            ∗ ∃ W', owes (S d (c.castLE hcore0)) O W') := by
  iintro ⟨#Hmw, Ht, Hr, Hts, Hrs, Hs0, Hs1, HO⟩
  sl_unfold [cc0__akima_scs]
  sl_exec
  sl_step
  have hv : View.write (Elt F) (Memref.whole main_v5_scs).view f (seq_run.sl.dma24 d c p g e) Finset.univ = fun _ => out p := by
    have e0 : View.write (Elt F) (Memref.whole cc0_scratch0).view g (seq_run.sl.dma0 d p) Finset.univ = p :=
      View.write_whole_univ (Val := Elt F) cc0_scratch0 g p
    revert e0
    sl_unfold_run_names
    intro e0
    rw [e0]
    refine (View.write_whole_univ (Val := Elt F) main_v5_scs f _).trans ?_
    funext i
    obtain rfl : i = pt := by funext a; fin_cases a; exact Subsingleton.elim (α := Fin 1) _ _
    refine (read_piece e _).trans ?_
    simp only [read_get]
    rfl
  irw [← hv]
  isplitl [Ht]; · iexact Ht
  isplitl [Hr]; · iexact Hr
  isplitl [Hts]; · iexists _; iexact Hts
  isplitl [Hrs]; · iexists _; iexact Hrs
  isplitl [Hs0]; · iexact Hs0
  isplitl [Hs1]; · iexact Hs1
  iexists _; iexact HO

end Cert.Proof.Run

end
-- ==== Proof.Call.lean ====
/- The call as the launch theorem asks for it: the scalar subcore's own buffers and semaphores, opened at the two
   scratches and the two copies' semaphores the kernel names and packed again after it, around the kernel's run. -/
module

public import proofs.«01_k».proof.Proof.Body

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabW" => (Memref.whole Cert.KernelIdeal.main_v4_scs : Memref Cert.KernelIdeal.sig Kind.scScalar Space.hbm Cert.KernelIdeal.S96 EltTy.f32)
local notation "resW" => (Memref.whole Cert.KernelIdeal.main_v5_scs : Memref Cert.KernelIdeal.sig Kind.scScalar Space.hbm Cert.KernelIdeal.S1 EltTy.f32)
local notation "tabS" => (Memref.whole Cert.KernelIdeal.cc0_scratch0 : Memref Cert.KernelIdeal.sig Kind.scScalar Space.smem Cert.KernelIdeal.S96 EltTy.f32)
local notation "resS" => (Memref.whole Cert.KernelIdeal.cc0_scratch1 : Memref Cert.KernelIdeal.sig Kind.scScalar Space.smem Cert.KernelIdeal.S1 EltTy.f32)

variable (d : Dev nD) (c : Fin τ.nSC)

/-- The semaphores of the copy in and of the copy out. -/
abbrev inCell : GSem nD τ sig := (S d c, SemLoc.dma cc0_scoped0.sem)
abbrev outCell : GSem nD τ sig := (S d c, SemLoc.dma cc0_scoped1.sem)

theorem cells_ne : outCell d c ≠ inCell d c := fun h =>
  absurd (congrArg Prod.snd h) (show (SemLoc.dma cc0_scoped1.sem : SemLoc sig) ≠ SemLoc.dma cc0_scoped0.sem by decide)

/-- The subcore's semaphores: the two copies', and the others. -/
theorem sems_open :
    (ownSems0 (S d c) : sProp 𝕄)
      = iprop(semVal (inCell d c) 0 ∗ semVal (outCell d c) 0
          ∗ bigSep (((ownCells (S d c)).erase (inCell d c)).erase (outCell d c)) fun g => semVal g 0) := by
  have hi : inCell d c ∈ ownCells (S d c) :=
    mem_ownCells.mpr ⟨rfl, show (SemLoc.dma cc0_scoped0.sem : SemLoc sig).isScoped .scScalar = true by decide⟩
  have ho : outCell d c ∈ ownCells (S d c) :=
    mem_ownCells.mpr ⟨rfl, show (SemLoc.dma cc0_scoped1.sem : SemLoc sig).isScoped .scScalar = true by decide⟩
  unfold SparseCore.Cfg.ownSems0
  rw [SparseCore.bigSep_erase' hi, SparseCore.bigSep_erase' (Finset.mem_erase.mpr ⟨cells_ne d c, ho⟩)]

/-- The subcore's buffers: the two scratches, each at some contents, and the others. -/
theorem bufs_open :
    (ownBufs (S d c) : sProp 𝕄)
      = iprop((∃ g, (S d c).loc cc0_scratch0 ↦{fullShare} g) ∗ (∃ e, (S d c).loc cc0_scratch1 ↦{fullShare} e)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  have h0 : (Proc.scScalar c).devRef cc0_scratch0 ∈ ownRefs (τ := τ) (sig := sig) (.scScalar c) := mem_ownRefs.mpr rfl
  have h1 : (Proc.scScalar c).devRef cc0_scratch1 ∈ ownRefs (τ := τ) (sig := sig) (.scScalar c) := mem_ownRefs.mpr rfl
  have hne : (Proc.scScalar c).devRef (sig := sig) cc0_scratch1 ≠ (Proc.scScalar c).devRef cc0_scratch0 := fun e =>
    absurd (Proc.devRef_injective _ e) (show (cc0_scratch1 : Ref sig .scScalar) ≠ cc0_scratch0 by decide)
  unfold SparseCore.Cfg.ownBufs
  refine (SparseCore.bigSep_erase' h0).trans ?_
  rw [SparseCore.bigSep_erase' (Finset.mem_erase.mpr ⟨hne, h1⟩)]

variable [FloatOps F]

/-- The kernel on a sequencer, from the table at `p` and the result cell at anything to the result cell at `out p`. -/
theorem call_run (c : Fin (grid0.bound 0)) (p : Buf (Elt F) (tabLoc d)) (O : CellTallies nD τ sig (HIx 1)) (W : Waits sig (HIx 1))
    (hO : ∀ g, O g none = 0) :
    (iprop(levAts (K (F := F)).L (K (F := F)).lev ∗ emp ∗ (tabPts d p ∗ ∃ f, resPts d f)
        ∗ scopedBufs (S d (c.castLE hcore0)) ∗ scopedSems0 (S d (c.castLE hcore0)) ∗ owes (S d (c.castLE hcore0)) O W) : sProp 𝕄)
      ⊢ wp frame (wpE (defs₀ (F := F)) 𝒱₀ (S d (c.castLE hcore0)) none) Set.univ
          (cc0__akima_scs (coordsS c) tabW (Memref.isWhole_whole _) resW (Memref.isWhole_whole _)
            tabS (Memref.isWhole_whole _) resS (Memref.isWhole_whole _) cc0_scoped0 cc0_scoped1)
          fun _ => iprop((tabPts d p ∗ resPts d fun _ => out p) ∗ scopedBufs (S d (c.castLE hcore0)) ∗ scopedSems0 (S d (c.castLE hcore0))
            ∗ ∃ W', ⌜∀ w ∈ W', w ∈ W ∨ w.2 = none ∨ w.2 = some (0 : Fin 1)⌝ ∗ owes (S d (c.castLE hcore0)) O W') := by
  rw [(K (F := F)).scopedBufs_S facts d _, SparseCore.Cfg.scopedSems0_S (Val := Elt F) d _, sems_open, bufs_open]
  iintro ⟨#Hlv, -, ⟨Ht, %f, Hr⟩, ⟨⟨⟨%g, Hg⟩, ⟨%e, He⟩, Hbufs⟩, Htiles⟩, ⟨⟨Hin, Hout, Hsems⟩, HtileSems⟩, HO⟩
  ihave Hmw := ((K (F := F)).mayWaits_none (thr := S d (c.castLE hcore0)) hO) $$ Hlv
  iapply (wp_wand_r Idealize.ShloMosaic.frame (wpE (defs₀ (F := F)) 𝒱₀ (S d (c.castLE hcore0)) none) Set.univ)
  isplitl [Ht Hr Hg He Hin Hout HO]
  · iapply (seq_run d c p f g e O W)
    isplitr; · iexact Hmw
    isplitl [Ht]; · iapply (Entails.of_eq (pts_tab (F := F) d _ _).symm); iexact Ht
    isplitl [Hr]; · iapply (Entails.of_eq (pts_res (F := F) d _ _).symm); iexact Hr
    isplitl [Hg]; · simp only [Memref.view_whole, View.set_whole]; iexact Hg
    isplitl [He]; · simp only [Memref.view_whole, View.set_whole]; iexact He
    isplitl [Hin]; · iexact Hin
    isplitl [Hout]; · iexact Hout
    iexact HO
  iintro %_ ⟨Ht, Hr, ⟨%g', Hg⟩, ⟨%e', He⟩, Hin, Hout, %W', HO⟩
  isplitl [Ht Hr]
  · isplitl [Ht]; · iapply (Entails.of_eq (pts_tab (F := F) d _ _)); iexact Ht
    iapply (Entails.of_eq (pts_res (F := F) d _ _)); iexact Hr
  isplitl [Hg He Hbufs Htiles]
  · isplitr [Htiles]
    · isplitl [Hg]; · iexists g'; simp only [Memref.view_whole, View.set_whole]; iexact Hg
      isplitl [He]; · iexists e'; simp only [Memref.view_whole, View.set_whole]; iexact He
      iexact Hbufs
    iexact Htiles
  isplitl [Hin Hout Hsems HtileSems]
  · isplitr [HtileSems]
    · isplitl [Hin]; · iexact Hin
      isplitl [Hout]; · iexact Hout
      iexact Hsems
    iexact HtileSems
  iexists W'; isplitr
  · ipureintro; intro w _
    match w.2 with
    | none => exact .inr (.inl rfl)
    | some q => exact .inr (.inr (congrArg some (Subsingleton.elim q 0)))
  · iexact HO

theorem table_row (c : Fin τ.nSC) :
    defs₀ (F := F) (.scScalar c) 0 ()
      = SparseCore.onCore hcore0 (fun c => cc0__akima_scs (coordsS c) tabW (Memref.isWhole_whole _) resW (Memref.isWhole_whole _)
          tabS (Memref.isWhole_whole _) resS (Memref.isWhole_whole _) cc0_scoped0 cc0_scoped1) ⟨⟩ c := rfl

/-- The launch theorem's demand on the call. -/
theorem call_obl (p : (d : Dev nD) → Buf (Elt F) (tabLoc d)) :
    (K (F := F)).ScalarObl (D (F := F)) 𝒱 (P p fun d _ => out (p d)) v₀ 0 := by
  intro d c O W hO _ _
  simp only [show (P p fun d _ => out (p d)).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [table_row]; simp only [SparseCore.onCore, hc, ↓reduceDIte]
  exact call_run d ⟨_, hc⟩ (p d) O W hO

end Cert.Proof.Run

end
-- ==== Proof.Main.lean ====
/- The whole program: the host's packing of the table, the call, the host's reshape of the result cell; from these the
   run of the program from any memory, over any floats. -/
module

public import proofs.«01_k».proof.Proof.Call
public import Idealize.ShloMosaic.Lib.Pipeline.Frame

@[expose] public section

noncomputable section

namespace Cert.Proof.Run

open Cert.KernelIdeal Cert.KernelIdeal.Gen
open Idealize.ShloMosaic
open Idealize.ShloMosaic.StableHlo (seq after held)
open Idealize.ShloMosaic.SparseCore (S V T)
open Idealize.ShloMosaic.SparseCore.Cfg (HIx Pay)
open Idealize.ShloMosaic.Pipeline (ucRefs sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's operations before and after the call -/

def before : List (HloOp τ sig (Elt F)) :=
  [StableHlo.unary main_arg0 main_v0 (broadcastInDim S1x16 ![1] bcast_S1_S1x16_1 : (⟨S1, .f32⟩ : BufTy).Contents (Elt F) → (⟨S1x16, .f32⟩ : BufTy).Contents (Elt F)),
   StableHlo.unary main_arg1 main_v1 (broadcastInDim S1x16 ![1] bcast_S16_S1x16_1 : (⟨S16, .f32⟩ : BufTy).Contents (Elt F) → (⟨S1x16, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_arg2 : StableHlo.TRef sig ⟨S4x15, .f32⟩) main_call0.v0 main_call0.v1
     (fun x v => pad S4x16 ![0, 0] ![0, 1] ![0, 0] x v pads_S4x15_S4x16_000_010 h_S_),
   StableHlo.nary ![main_v0, main_v1, main_v2] main_v3 (fun u => (concatenate S6x16 0 [⟨S1x16, (u 0 : (⟨S1x16, .f32⟩ : BufTy).Contents (Elt F))⟩,
     ⟨S1x16, (u 1 : (⟨S1x16, .f32⟩ : BufTy).Contents (Elt F))⟩, ⟨S4x16, (u 2 : (⟨S4x16, .f32⟩ : BufTy).Contents (Elt F))⟩]
     concatenates_S1x16_S1x16_S4x16_S6x16_d0 : (⟨S6x16, .f32⟩ : BufTy).Contents (Elt F))),
   StableHlo.reshape main_v3 main_v4 (rfl : (.f32 : EltTy) = .f32) shapeCasts_S6x16_S96]

def later : List (HloOp τ sig (Elt F)) :=
  [StableHlo.reshape main_v5 main_v6 (rfl : (.f32 : EltTy) = .f32) shapeCasts_S1_S_]

theorem main_eq (d : Dev nD) : main (F := F) d = seq before >>= fun _ => (sc.run d 0 >>= fun _ => (seq later >>= fun _ => pure ⟨⟩)) := rfl

variable (m : (ℓ : Loc nD τ sig) → Buf (Elt F) ℓ) (ρ : Dev nD → PrngReg)

abbrev tab' : DevRef τ sig := Proc.devRef .tc (main_v4 : Ref sig .tc)
abbrev res' : DevRef τ sig := Proc.devRef .tc (main_v5 : Ref sig .tc)

/-- The device's arrays when the call starts, when it has ended, and at the end. -/
def V1 (d : Dev nD) : Valuation τ sig (Elt F) := after before (fun b => m (d, b))
/-- The table the host packs for the call. -/
def packed (d : Dev nD) : Buf (Elt F) (tabLoc d) := V1 m d tab'
def V2 (d : Dev nD) : Valuation τ sig (Elt F) := Function.update (V1 m d) res' fun _ => out (packed m d)
def V3 (d : Dev nD) : Valuation τ sig (Elt F) := after later (V2 m d)

theorem bufs_before : ∀ op ∈ before (F := F), op.bufs ⊆ ucRefs τ sig := fun op h =>
  sub_ucRefs op (List.forall_iff_forall_mem.mp (show (before (F := F)).Forall fun op => op.bufs ⊆ StableHlo.tcRefs τ sig from
    ⟨StableHlo.unary_bufs_sub .., StableHlo.unary_bufs_sub .., StableHlo.nullary_bufs_sub .., StableHlo.unary_bufs_sub .., StableHlo.binary_bufs_sub ..,
      StableHlo.nary_bufs_sub .., StableHlo.reshape_bufs_sub ..⟩) op h)
theorem bufs_later : ∀ op ∈ later (F := F), op.bufs ⊆ ucRefs τ sig := fun op h =>
  sub_ucRefs op (List.forall_iff_forall_mem.mp (show (later (F := F)).Forall fun op => op.bufs ⊆ StableHlo.tcRefs τ sig from
    StableHlo.reshape_bufs_sub ..) op h)
theorem fresh_before : ∀ op ∈ before (F := F), op.fresh = ∅ := by
  intro _ h; (repeat (cases h with | head => rfl | tail _ h => ?_)); exact nomatch h
theorem fresh_later : ∀ op ∈ later (F := F), op.fresh = ∅ := by
  intro _ h; (repeat (cases h with | head => rfl | tail _ h => ?_)); exact nomatch h

/-- The table and the result cell out of the device's arrays. -/
theorem held_open (d : Dev nD) (W : Valuation τ sig (Elt F)) :
    (held (d.tc : Thread nD τ) (ucRefs τ sig) W : sProp 𝕄)
      = iprop(tabPts d (W tab') ∗ resPts d (W res') ∗ held (d.tc : Thread nD τ) (ucRefs τ sig \ {tab', res'}) W) := by
  have hs : ({tab', res'} : Finset (DevRef τ sig)) ⊆ ucRefs τ sig := by
    intro b hb
    rcases Finset.mem_insert.mp hb with rfl | hb
    · exact Finset.mem_filter.mpr ⟨StableHlo.devRef_mem_tcRefs _, by decide⟩
    · rw [Finset.mem_singleton.mp hb]; exact Finset.mem_filter.mpr ⟨StableHlo.devRef_mem_tcRefs _, by decide⟩
  rw [StableHlo.held_sub_split (d.tc : Thread nD τ) hs W]
  unfold held
  rw [SparseCore.bigSep_insert' (show tab' ∉ ({res'} : Finset (DevRef τ sig)) by decide), bigSep_singleton]
  exact equiv_iff.mp ⟨BI.sep_assoc, BI.sep_assoc'⟩

theorem V2_tab (d : Dev nD) : V2 m d tab' = packed m d := Function.update_of_ne (show tab' ≠ res' by decide) _ _
theorem V2_res (d : Dev nD) : V2 m d res' = fun _ => out (packed m d) := Function.update_self _ _ _
theorem held_V2 (d : Dev nD) :
    (held (d.tc : Thread nD τ) (ucRefs τ sig \ {tab', res'}) (V2 m d) : sProp 𝕄) = held (d.tc : Thread nD τ) (ucRefs τ sig \ {tab', res'}) (V1 m d) :=
  StableHlo.held_congr _ fun b hb => Function.update_of_ne (fun e => (Finset.mem_sdiff.mp hb).2 (by rw [e]; decide)) _ _

/-- What the call is given and what it gives back, on its one SparseCore. -/
abbrev pay := P (F := F) (packed m) fun d _ => out (packed m d)

theorem st_eq (d : Dev nD) : (bigSep Finset.univ fun c : Fin ((K (F := F)).nCore 0) => (pay m).st 0 d c) = iprop(tabPts d (packed m d) ∗ ∃ f, resPts d f) := by
  show (bigSep (Finset.univ : Finset (Fin 1)) fun _ => iprop(tabPts d (packed m d) ∗ ∃ f, resPts d f)) = _
  rw [show (Finset.univ : Finset (Fin 1)) = {0} by decide, bigSep_singleton]
theorem dn_eq (d : Dev nD) : (bigSep Finset.univ fun c : Fin ((K (F := F)).nCore 0) => (pay m).dn 0 d c) = iprop(tabPts d (packed m d) ∗ resPts d fun _ => out (packed m d)) := by
  show (bigSep (Finset.univ : Finset (Fin 1)) fun _ => iprop(tabPts d (packed m d) ∗ resPts d fun _ => out (packed m d))) = _
  rw [show (Finset.univ : Finset (Fin 1)) = {0} by decide, bigSep_singleton]

/-- @main on the TensorCore: it ends with every array at `V3`. -/
theorem main_run (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (d.tc : Thread nD τ) (ucRefs τ sig) (V3 m d) ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (fun b => m (d, b))
    from Pipeline.unscopedBufs_held d fun b => m (d, b), main_eq]
  iintro ⟨#Hctx, Hst, ⟨Hb, Hheld, Hts, -⟩, -⟩
  iapply (StableHlo.wp_seq 𝒱 none Set.univ d (ucRefs τ sig) _ before bufs_before fresh_before (fun b => m (d, b))) $$ [Hb Hheld]
  · isplitl [Hb] <;> iassumption
  iintro ⟨Hb, Hheld⟩
  ihave Hh := (Entails.of_eq (held_open (F := F) d (after before fun b => m (d, b)))) $$ Hheld
  icases Hh with ⟨Ht, Hr, Hrest⟩
  rw [wp_bind]
  iapply ((K (F := F)).wp_run (D (F := F)) 𝒱 (EH := EH) (P := pay m) κ d 0) $$ [Hst Ht Hr Hb Hrest Hts]
  isplitr; · iexact Hctx
  isplitl [Hst]; · iexact Hst
  isplitl [Ht Hr]
  · rw [st_eq]
    isplitl [Ht]; · iexact Ht
    iexists _; iexact Hr
  iintro ⟨Hst, Hdn⟩
  ihave Hdn' := (Entails.of_eq (dn_eq m d)) $$ Hdn
  icases Hdn' with ⟨Ht, Hr⟩
  iapply (StableHlo.wp_seq 𝒱 none Set.univ d (ucRefs τ sig) _ later bufs_later fresh_later (V2 m d)) $$ [Hb Ht Hr Hrest]
  · isplitl [Hb]; · iexact Hb
    rw [held_open, V2_tab, V2_res, held_V2]
    isplitl [Ht]; · iexact Ht
    isplitl [Hr]; · iexact Hr
    iexact Hrest
  iintro ⟨Hb, Hheld⟩
  rw [wp_pure]; imodintro
  isplitl [Hst]; · iexact Hst
  isplitl [Hheld]; · iexact Hheld
  isplitl [Hb] <;> iassumption

/-- What is read off the final memory: every array of the device at `V3`. -/
def ends (d : Dev nD) (s : Phys nD τ sig (Elt F)) : Prop := ∀ b ∈ ucRefs τ sig, s.mem.mem (d, b) = V3 m d b

theorem ends_read (d : Dev nD) (s : Phys nD τ sig (Elt F)) :
    iprop(held (d.tc : Thread nD τ) (ucRefs τ sig) (V3 m d) ∗ SI s) ⊢ (⌜ends m d s⌝ : sProp 𝕄) := by
  unfold held
  iintro ⟨H, HSI⟩
  ihave %h := (SI_pointsTo_bufs_agree (qs := fun _ => fullShare) (ucRefs τ sig)) $$ [HSI H]
  · isplitl [HSI]; · iexact HSI
    iexact H
  ipureintro
  exact h

/-- The handshakes' rounds at the launch; the kernel brings nothing of its own. -/
def u₀ : UU := (initOf (K (F := F)).hsCells (K (F := F)).hsToks, 1)

theorem launch : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  have he {I : Type} (s : Finset I) : (bigSep s fun _ => iprop(emp)) = (iprop(emp) : sProp 𝕄) := bigSep_emp_const s
  rw [show (bigSep Finset.univ fun thr : Thread nD τ => bigSep Finset.univ fun q : Fin 1 => (pay m).x q thr) = (iprop(emp) : sProp 𝕄) from
    (bigSep_congr fun _ _ => he _).trans (he _), he]
  unfold u₀
  iintro Hu
  ihave H := (ownU_pair _ _) $$ Hu
  icases H with ⟨H, -⟩
  imodintro
  isplitl [H]; · iexact H
  isplitr <;> iempintro

/-- The program's run: it ends with every array of every device at `V3` and every counter at zero. -/
theorem run_main [∀ e, Nonempty (Elt F e)] : θ_run (Cert.KernelIdeal.defs (F := F)) (Cert.KernelIdeal.threads (F := F)) ⟨m, fun _ => 0, ρ⟩
    fun r => (∀ d : Dev nD, ∀ b ∈ ucRefs τ sig, r.2.mem (d, b) = V3 m d b) ∧ r.2.sem = fun _ => 0 :=
  SparseCore.Cfg.θ_run_sc_quiescent (K := K (F := F)) (D := D (F := F)) (𝒱 := 𝒱) (EH := EH) (P := pay m) (A := ∅) facts v₀
    (fun q _ => match q with | 0 => call_obl (packed m))
    (fun q hq => match q with | 0 => nomatch hq)
    (fun q hq => match q with | 0 => nomatch hq)
    m ρ main (fun _ => iprop(emp)) (fun d => held (d.tc : Thread nD τ) (ucRefs τ sig) (V3 m d)) (u₀ (F := F))
    (sep_elim_left.trans (launch m)) (main_run m ρ) (ends m) (ends_read m) _ (fun _ h hz => ⟨h, hz⟩)

end Cert.Proof.Run

end
-- ==== Proof.Table.lean ====
/- What the host packs: the table's first word is the point, its words 16 to 31 are the knots, and its rows of 16 from
   word 32 on are the rows of coefficients. -/
module

public import proofs.«01_k».proof.Proof.Main
public import Idealize.ShloMosaic.Lib.Pipeline.Value
public import Idealize.ShloMosaic.Lib.KernelVsHost

@[expose] public section

noncomputable section

namespace Cert.Proof.Run

open Cert.KernelIdeal Cert.KernelIdeal.Gen
open Idealize.ShloMosaic
open Idealize.ShloMosaic.StableHlo (after)
open Idealize.ShloMosaic.Tactic

variable {F : FTy → Type} [FloatOps F]

/-- The table of a point, the knots and the coefficients. -/
def table (b : FVec F S1 .f32) (xs : FVec F S16 .f32) (c : FVec F S4x15 .f32) : FVec F S96 .f32 :=
  shapeCast S96 (concatenate S6x16 0 [⟨S1x16, broadcastInDim S1x16 ![1] bcast_S1_S1x16_1 b⟩, ⟨S1x16, broadcastInDim S1x16 ![1] bcast_S16_S1x16_1 xs⟩,
    ⟨S4x16, pad S4x16 ![0, 0] ![0, 1] ![0, 0] c (sitofp .f32 (constantI S_ 32 0#32)) pads_S4x15_S4x16_000_010 h_S_⟩]
    concatenates_S1x16_S1x16_S4x16_S6x16_d0) shapeCasts_S6x16_S96

variable (m : (ℓ : Loc nD τ sig) → Buf (Elt F) ℓ) (d : Dev nD)

theorem packed_eq : packed m d = table (m ((SparseCore.T d).loc main_arg0)) (m ((SparseCore.T d).loc main_arg1)) (m ((SparseCore.T d).loc main_arg2)) := by
  unfold packed V1 before
  after_results
  rfl

theorem V3_arg0 : V3 m d (Proc.devRef .tc (main_arg0 : Ref sig .tc)) = m ((SparseCore.T d).loc main_arg0) := by
  unfold V3 later
  after_results
  unfold V2
  rw [Function.update_of_ne (by decide)]
  unfold V1 before
  after_results
theorem V3_arg1 : V3 m d (Proc.devRef .tc (main_arg1 : Ref sig .tc)) = m ((SparseCore.T d).loc main_arg1) := by
  unfold V3 later
  after_results
  unfold V2
  rw [Function.update_of_ne (by decide)]
  unfold V1 before
  after_results
theorem V3_arg2 : V3 m d (Proc.devRef .tc (main_arg2 : Ref sig .tc)) = m ((SparseCore.T d).loc main_arg2) := by
  unfold V3 later
  after_results
  unfold V2
  rw [Function.update_of_ne (by decide)]
  unfold V1 before
  after_results

/-- The result is the result cell's one word. -/
theorem V3_out : V3 m d (Proc.devRef .tc (main_v6 : Ref sig .tc)) = fun _ => out (packed m d) := by
  unfold V3 later
  after_results
  rw [V2_res]
  rfl

variable (b : FVec F S1 .f32) (xs : FVec F S16 .f32) (c : FVec F S4x15 .f32)

/-- The index of row `r` and column `i` in the host's six rows, and of row `r` and column `i` in the coefficients. -/
abbrev row (r : Fin 6) (i : Fin 16) : S6x16.Idx := fun | 0 => r | 1 => i
abbrev coef (r : Fin 4) (i : Fin 15) : S4x15.Idx := fun | 0 => r | 1 => i
abbrev knot (j : Fin 16) : S16.Idx := fun | 0 => j
abbrev word (n : Fin 96) : S96.Idx := fun | 0 => n

theorem word_row (x : FVec F S6x16 .f32) (r : Fin 6) (i : Fin 16) (n : Fin 96) (h : n.val = 16 * r.val + i.val) :
    shapeCast S96 x shapeCasts_S6x16_S96 (word n) = x (row r i) := by
  refine shapeCast_apply _ _ _ _ ?_
  rw [Shape.rowMajor_val_two, Shape.rowMajor_val_one]
  show r.val * 16 + i.val = n.val
  omega

theorem table_point : table b xs c (word 0) = b pt := by
  refine (word_row _ 0 0 0 rfl).trans ?_
  refine (concatenate_apply_piece (t := S6x16) 0 _ _ (row 0 0) 0 (by show 0 < 3; decide) S1x16 _ rfl rfl 0 rfl (fun | 0 => (0 : Fin 1) | 1 => (0 : Fin 16)) ?_ rfl).trans ?_
  · intro a ha; fin_cases a
    · exact absurd rfl ha
    · rfl
  · refine congrArg b ?_
    funext a; fin_cases a; exact Subsingleton.elim (α := Fin 1) _ _

theorem table_knot (j : Fin 16) (n : Fin 96) (h : n.val = 16 + j.val) : table b xs c (word n) = xs (knot j) := by
  refine (word_row _ 1 j n (by simpa using h)).trans ?_
  refine (concatenate_apply_piece (t := S6x16) 0 _ _ (row 1 j) 1 (by show 1 < 3; decide) S1x16 _ rfl rfl 1 rfl (fun | 0 => (0 : Fin 1) | 1 => j) ?_ rfl).trans ?_
  · intro a ha; fin_cases a
    · exact absurd rfl ha
    · rfl
  · refine congrArg xs ?_
    funext a; fin_cases a; rfl

theorem table_coef (r : Fin 4) (i : Fin 15) (n : Fin 96) (h : n.val = 32 + 16 * r.val + i.val) : table b xs c (word n) = c (coef r i) := by
  have hr := r.isLt
  have hi := i.isLt
  refine (word_row _ ⟨2 + r.val, by omega⟩ ⟨i.val, by omega⟩ n (by show n.val = 16 * (2 + r.val) + i.val; omega)).trans ?_
  refine (concatenate_apply_piece (t := S6x16) 0 _ _ (row ⟨2 + r.val, by omega⟩ ⟨i.val, by omega⟩) 2 (by show 2 < 3; decide) S4x16 _ rfl rfl 2 rfl
    (fun | 0 => (r : Fin 4) | 1 => (⟨i.val, by omega⟩ : Fin 16)) ?_ rfl).trans ?_
  · intro a ha; fin_cases a
    · exact absurd rfl ha
    · rfl
  · refine pad_apply_of_inside (s := S4x15) ![0, 0] ![0, 1] ![0, 0] c _ pads_S4x15_S4x16_000_010 h_S_ _ (coef r i) ?_
    intro a; fin_cases a
    · show r.val = 0 + r.val * (0 + 1); omega
    · show i.val = 0 + i.val * (0 + 1); omega

/-- The comparisons of the knots with the point: knot `j` is not above it. -/
def below (j : Fin 16) : BitVec 1 := Scalar.cmpf .ole (xs (knot j)) (b pt)

/-- The interval: how many knots are not above the point, less one, kept within `0 … 14`. -/
def interval : Fin 15 := ⟨Index.place (below b xs), Nat.lt_succ_of_le (Index.place_le _)⟩

theorem get_word (p : FVec F S96 .f32) (off : Fin 1 → ℕ) (h : ∀ a, off a + S1.size a ≤ S96.size a) (n : Fin 96) (e : off = ![n.val]) :
    get p off h = p (word n) := by
  subst e
  refine congrArg p ?_
  funext a; fin_cases a; rfl

theorem flag_table : flag (table b xs c) = below b xs := by
  funext j
  have hj := j.isLt
  unfold flag below
  rw [get_word _ ![16 + j.val] _ ⟨16 + j.val, by omega⟩ rfl, get_word _ ![0] _ 0 rfl, table_point, table_knot b xs c j _ rfl]

theorem offs_table (k : BitVec 32) (hk : k.toNat ≤ 80) : offs (table b xs c) k = ![k.toNat + (interval b xs).val] := by
  unfold offs
  rw [flag_table]
  exact Index.off_eq (below b xs) k hk

/-- The knot that the interval starts at, and the interval's coefficients, read at the interval out of their rows. -/
theorem get_interval_knot (k : BitVec 32) (hk : k.toNat = 16) (h : ∀ a, offs (table b xs c) k a + S1.size a ≤ S96.size a) :
    get (table b xs c) (offs (table b xs c) k) h = xs (knot (interval b xs).castSucc) := by
  have hi := (interval b xs).isLt
  rw [get_word _ _ _ ⟨16 + (interval b xs).val, by omega⟩ (by rw [offs_table b xs c k (by omega), hk])]
  exact table_knot b xs c _ _ rfl

theorem get_interval_coef (r : Fin 4) (k : BitVec 32) (hk : k.toNat = 32 + 16 * r.val) (h : ∀ a, offs (table b xs c) k a + S1.size a ≤ S96.size a) :
    get (table b xs c) (offs (table b xs c) k) h = c (coef r (interval b xs)) := by
  have hi := (interval b xs).isLt
  have hr := r.isLt
  rw [get_word _ _ _ ⟨32 + 16 * r.val + (interval b xs).val, by omega⟩ (by rw [offs_table b xs c k (by omega), hk])]
  exact table_coef b xs c r _ _ rfl

/-- The kernel's last comparison, of its count with sixteen. -/
theorem count_lt (h : Fin 16 → BitVec 1) :
    Scalar.cmpi .slt (Index.tree fun j => Scalar.select (h j) 1#32 0#32) 16#32 = BitVec.ofBool (decide (Index.hits h < 16)) := by
  have hs : ∀ n, n ≤ 16 → Scalar.cmpi .slt (BitVec.ofNat 32 n) 16#32 = BitVec.ofBool (decide (n < 16)) := by decide
  have e := hs _ (Index.hits_le h)
  rw [← Index.tree_toNat h] at e ⊢
  rwa [BitVec.ofNat_toNat, BitVec.setWidth_eq] at e

/-- What the kernel computes of a point, knots and coefficients: the cubic of the point's interval by Horner's rule,
    and zero where no knot is above the point. -/
theorem out_table : out (table b xs c)
    = Scalar.select (BitVec.ofBool (decide (Index.hits (below b xs) < 16)))
        (k0_pay1 (b pt) (xs (knot ((interval b xs).castSucc))) (c (coef 0 (interval b xs))) (c (coef 1 (interval b xs))) (c (coef 2 (interval b xs)))
          (c (coef 3 (interval b xs))))
        (Scalar.ofBits .f32 0x00000000#32) := by
  unfold out
  rw [get_word _ ![0] _ 0 rfl, table_point, flag_table, count_lt]
  rw [get_interval_knot b xs c 16#32 (by decide)]
  rw [get_interval_coef b xs c 0 32#32 (by decide)]
  rw [get_interval_coef b xs c 1 48#32 (by decide)]
  rw [get_interval_coef b xs c 2 64#32 (by decide)]
  rw [get_interval_coef b xs c 3 80#32 (by decide)]

end Cert.Proof.Run

end
-- ==== Proof.Reference.lean ====
/- The reference's run: its operations in seven parts, what each part leaves in the buffers that later parts read, and so
   what the whole leaves in its result. -/
module

public import proofs.«01_k».proof.Proof.Gen.ReferenceIdeal
public import Idealize.ShloMosaic.Lib.StableHlo.RunClose
public import Idealize.ShloMosaic.Lib.Quiescent
public import Idealize.ShloMosaic.Lib.Claim

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The reference's operations, by name -/

def point (b : FVec F S1 .f32) : FVec F S_ .f32 := shapeCast _ b shapeCasts_S1_S_
def count (b : FVec F S1 .f32) (xs : FVec F S16 .f32) : IVec S_ 32 :=
  Host.reduce IntOp.addi (extui 32 (cmpf .ole xs (broadcastInDim S16 ![] bcast_S_S16 (point b))) natLt_1_32) (constantI S_ 32 0#32) reducesTo_S16_S_d0 h_S_
/-- The count less one, kept within `0 … 14`. -/
def clipped (b : FVec F S1 .f32) (xs : FVec F S16 .f32) : IVec S_ 32 :=
  minsi (constantI S_ 32 14#32) (maxsi (constantI S_ 32 0#32) (subi (count b xs) (constantI S_ 32 1#32)))
/-- An index counted from the end where it is negative. -/
def wrapped (n : BitVec 32) (i : IVec S_ 32) : IVec S_ 32 := select (cmpi .slt i (constantI S_ 32 0#32)) (addi i (constantI S_ 32 n)) i
def knotAt (xs : FVec F S16 .f32) (i : IVec S_ 32) : FVec F S_ .f32 :=
  shapeCast _ (Host.dynamicSlice S1 xs (fun k => ((![wrapped 16#32 i] : Fin 1 → IVec S_ 32) k (Shape.Idx.first h_S_)).toInt)
    sliceFits_S16_S1) shapeCasts_S1_S_
def coefAt (c : FVec F S4x15 .f32) (r : BitVec 32) (i : IVec S_ 32) : FVec F S_ .f32 :=
  shapeCast _ (Host.dynamicSlice S1x1 c (fun k => ((![wrapped 4#32 (constantI S_ 32 r), wrapped 15#32 i] :
    Fin 2 → IVec S_ 32) k (Shape.Idx.first h_S_)).toInt) sliceFits_S4x15_S1x1) shapeCasts_S1x1_S_
def lastKnot (xs : FVec F S16 .f32) : FVec F S_ .f32 := shapeCast _ (extractStridedSlice S1 ![15] xs slices_S16_S1_15) shapeCasts_S1_S_
/-- The interval's cubic, as a sum of powers of the distance `t`. -/
def cubic (c : FVec F S4x15 .f32) (i : IVec S_ 32) (t : FVec F S_ .f32) : FVec F S_ .f32 :=
  addf (addf (addf (coefAt c 3#32 i) (mulf (coefAt c 2#32 i) t)) (mulf (coefAt c 1#32 i) (mulf t t))) (mulf (coefAt c 0#32 i) (mulf (mulf t t) t))
def result (b : FVec F S1 .f32) (xs : FVec F S16 .f32) (c : FVec F S4x15 .f32) : FVec F S_ .f32 :=
  select (cmpf .olt (point b) (lastKnot xs)) (cubic c (clipped b xs) (subf (point b) (knotAt xs (clipped b xs)))) (constant S_ .f32 0x00000000#32)

/-! ## The operations' parts -/

/-- Operations: the point as a scalar and the clipped count. -/
def opsIndex : List (HloOp τ sig (Elt F)) :=
  [reshape main_arg0 main_v0 (rfl : (.f32 : EltTy) = .f32) shapeCasts_S1_S_,
   unary main_v0 main_v1 (broadcastInDim S16 ![] bcast_S_S16 : (⟨S_, .f32⟩ : BufTy).Contents (Elt F) → (⟨S16, .f32⟩ : BufTy).Contents (Elt F)),
   binary main_arg1 main_v1 main_v2 (cmpf .ole : (⟨S16, .f32⟩ : BufTy).Contents (Elt F) → (⟨S16, .f32⟩ : BufTy).Contents (Elt F) → (⟨S16, .i1⟩ : BufTy).Contents (Elt F)),
   unary main_v2 main_v3 ((extui 32 · natLt_1_32) : (⟨S16, .i1⟩ : BufTy).Contents (Elt F) → (⟨S16, .i32⟩ : BufTy).Contents (Elt F)),
   nullary main_c (constantI S_ 32 0#32),
   binary main_v3 main_c main_v4 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)),
   nullary main_c_0 (constantI S_ 32 1#32),
   binary main_v4 main_c_0 main_v5 (subi : (⟨S_, .i32⟩ : BufTy).Contents (Elt F) → (⟨S_, .i32⟩ : BufTy).Contents (Elt F) → (⟨S_, .i32⟩ : BufTy).Contents (Elt F)),
   nullary main_c_1 (constantI S_ 32 0#32),
   nullary main_c_2 (constantI S_ 32 14#32),
   TRef.unary (TRef.of (T := ⟨S_, .i32⟩) main_c_1) (TRef.of (T := ⟨S_, .i32⟩) main_call0_v0) id,
   TRef.binary (TRef.of (T := ⟨S_, .i32⟩) main_call0_v0) (TRef.of (T := ⟨S_, .i32⟩) main_v5) (TRef.of (T := ⟨S_, .i32⟩) main_call0_v1) maxsi,
   TRef.unary (TRef.of (T := ⟨S_, .i32⟩) main_c_2) (TRef.of (T := ⟨S_, .i32⟩) main_call0_v2) id,
   TRef.binary (TRef.of (T := ⟨S_, .i32⟩) main_call0_v2) (TRef.of (T := ⟨S_, .i32⟩) main_call0_v1) (TRef.of (T := ⟨S_, .i32⟩) main_v6) minsi]
/-- Operations: the point's distance from the interval's first knot. -/
def opsDist : List (HloOp τ sig (Elt F)) :=
  [nullary main_c_3 (constantI S_ 32 0#32),
   binary main_v6 main_c_3 main_v7 (cmpi .slt : (⟨S_, .i32⟩ : BufTy).Contents (Elt F) → (⟨S_, .i32⟩ : BufTy).Contents (Elt F) → (⟨S_, .i1⟩ : BufTy).Contents (Elt F)),
   nullary main_c_4 (constantI S_ 32 16#32),
   binary main_v6 main_c_4 main_v8 (addi : (⟨S_, .i32⟩ : BufTy).Contents (Elt F) → (⟨S_, .i32⟩ : BufTy).Contents (Elt F) → (⟨S_, .i32⟩ : BufTy).Contents (Elt F)),
   ternary main_v7 main_v8 main_v6 main_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   unaryIndexed main_arg1 ![main_v9] ⟨S_, .i32⟩ main_v10 ((fun x i => Host.dynamicSlice S1 x (fun k => (i k (Shape.Idx.first h_S_)).toInt) sliceFits_S16_S1) : (⟨S16, .f32⟩ : BufTy).Contents (Elt F) → (Fin 1 → (⟨S_, .i32⟩ : BufTy).Contents (Elt F)) → (⟨S1, .f32⟩ : BufTy).Contents (Elt F)),
   reshape main_v10 main_v11 (rfl : (.f32 : EltTy) = .f32) shapeCasts_S1_S_,
   binary main_v0 main_v11 main_v12 (subf : (⟨S_, .f32⟩ : BufTy).Contents (Elt F) → (⟨S_, .f32⟩ : BufTy).Contents (Elt F) → (⟨S_, .f32⟩ : BufTy).Contents (Elt F))]
/-- Operations: the interval's coefficient in row 3. -/
def opsRow3 : List (HloOp τ sig (Elt F)) :=
  [nullary main_c_5 (constantI S_ 32 3#32),
   nullary main_c_6 (constantI S_ 32 0#32),
   binary main_c_5 main_c_6 main_v13 (cmpi .slt : (⟨S_, .i32⟩ : BufTy).Contents (Elt F) → (⟨S_, .i32⟩ : BufTy).Contents (Elt F) → (⟨S_, .i1⟩ : BufTy).Contents (Elt F)),
   nullary main_c_7 (constantI S_ 32 3#32),
   nullary main_c_8 (constantI S_ 32 4#32),
   binary main_c_7 main_c_8 main_v14 (addi : (⟨S_, .i32⟩ : BufTy).Contents (Elt F) → (⟨S_, .i32⟩ : BufTy).Contents (Elt F) → (⟨S_, .i32⟩ : BufTy).Contents (Elt F)),
   nullary main_c_9 (constantI S_ 32 3#32),
   ternary main_v13 main_v14 main_c_9 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   nullary main_c_10 (constantI S_ 32 0#32),
   binary main_v6 main_c_10 main_v16 (cmpi .slt : (⟨S_, .i32⟩ : BufTy).Contents (Elt F) → (⟨S_, .i32⟩ : BufTy).Contents (Elt F) → (⟨S_, .i1⟩ : BufTy).Contents (Elt F)),
   nullary main_c_11 (constantI S_ 32 15#32),
   binary main_v6 main_c_11 main_v17 (addi : (⟨S_, .i32⟩ : BufTy).Contents (Elt F) → (⟨S_, .i32⟩ : BufTy).Contents (Elt F) → (⟨S_, .i32⟩ : BufTy).Contents (Elt F)),
   ternary main_v16 main_v17 main_v6 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   unaryIndexed main_arg2 ![main_v15, main_v18] ⟨S_, .i32⟩ main_v19 ((fun x i => Host.dynamicSlice S1x1 x (fun k => (i k (Shape.Idx.first h_S_)).toInt) sliceFits_S4x15_S1x1) : (⟨S4x15, .f32⟩ : BufTy).Contents (Elt F) → (Fin 2 → (⟨S_, .i32⟩ : BufTy).Contents (Elt F)) → (⟨S1x1, .f32⟩ : BufTy).Contents (Elt F)),
   reshape main_v19 main_v20 (rfl : (.f32 : EltTy) = .f32) shapeCasts_S1x1_S_]
/-- Operations: row 2's term added. -/
def opsRow2 : List (HloOp τ sig (Elt F)) :=
  [nullary main_c_12 (constantI S_ 32 2#32),
   nullary main_c_13 (constantI S_ 32 0#32),
   binary main_c_12 main_c_13 main_v21 (cmpi .slt : (⟨S_, .i32⟩ : BufTy).Contents (Elt F) → (⟨S_, .i32⟩ : BufTy).Contents (Elt F) → (⟨S_, .i1⟩ : BufTy).Contents (Elt F)),
   nullary main_c_14 (constantI S_ 32 2#32),
   nullary main_c_15 (constantI S_ 32 4#32),
   binary main_c_14 main_c_15 main_v22 (addi : (⟨S_, .i32⟩ : BufTy).Contents (Elt F) → (⟨S_, .i32⟩ : BufTy).Contents (Elt F) → (⟨S_, .i32⟩ : BufTy).Contents (Elt F)),
   nullary main_c_16 (constantI S_ 32 2#32),
   ternary main_v21 main_v22 main_c_16 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   nullary main_c_17 (constantI S_ 32 0#32),
   binary main_v6 main_c_17 main_v24 (cmpi .slt : (⟨S_, .i32⟩ : BufTy).Contents (Elt F) → (⟨S_, .i32⟩ : BufTy).Contents (Elt F) → (⟨S_, .i1⟩ : BufTy).Contents (Elt F)),
   nullary main_c_18 (constantI S_ 32 15#32),
   binary main_v6 main_c_18 main_v25 (addi : (⟨S_, .i32⟩ : BufTy).Contents (Elt F) → (⟨S_, .i32⟩ : BufTy).Contents (Elt F) → (⟨S_, .i32⟩ : BufTy).Contents (Elt F)),
   ternary main_v24 main_v25 main_v6 main_v26 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   unaryIndexed main_arg2 ![main_v23, main_v26] ⟨S_, .i32⟩ main_v27 ((fun x i => Host.dynamicSlice S1x1 x (fun k => (i k (Shape.Idx.first h_S_)).toInt) sliceFits_S4x15_S1x1) : (⟨S4x15, .f32⟩ : BufTy).Contents (Elt F) → (Fin 2 → (⟨S_, .i32⟩ : BufTy).Contents (Elt F)) → (⟨S1x1, .f32⟩ : BufTy).Contents (Elt F)),
   reshape main_v27 main_v28 (rfl : (.f32 : EltTy) = .f32) shapeCasts_S1x1_S_,
   binary main_v28 main_v12 main_v29 (mulf : (⟨S_, .f32⟩ : BufTy).Contents (Elt F) → (⟨S_, .f32⟩ : BufTy).Contents (Elt F) → (⟨S_, .f32⟩ : BufTy).Contents (Elt F)),
   binary main_v20 main_v29 main_v30 (addf : (⟨S_, .f32⟩ : BufTy).Contents (Elt F) → (⟨S_, .f32⟩ : BufTy).Contents (Elt F) → (⟨S_, .f32⟩ : BufTy).Contents (Elt F))]
/-- Operations: row 1's term added. -/
def opsRow1 : List (HloOp τ sig (Elt F)) :=
  [nullary main_c_19 (constantI S_ 32 1#32),
   nullary main_c_20 (constantI S_ 32 0#32),
   binary main_c_19 main_c_20 main_v31 (cmpi .slt : (⟨S_, .i32⟩ : BufTy).Contents (Elt F) → (⟨S_, .i32⟩ : BufTy).Contents (Elt F) → (⟨S_, .i1⟩ : BufTy).Contents (Elt F)),
   nullary main_c_21 (constantI S_ 32 1#32),
   nullary main_c_22 (constantI S_ 32 4#32),
   binary main_c_21 main_c_22 main_v32 (addi : (⟨S_, .i32⟩ : BufTy).Contents (Elt F) → (⟨S_, .i32⟩ : BufTy).Contents (Elt F) → (⟨S_, .i32⟩ : BufTy).Contents (Elt F)),
   nullary main_c_23 (constantI S_ 32 1#32),
   ternary main_v31 main_v32 main_c_23 main_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   nullary main_c_24 (constantI S_ 32 0#32),
   binary main_v6 main_c_24 main_v34 (cmpi .slt : (⟨S_, .i32⟩ : BufTy).Contents (Elt F) → (⟨S_, .i32⟩ : BufTy).Contents (Elt F) → (⟨S_, .i1⟩ : BufTy).Contents (Elt F)),
   nullary main_c_25 (constantI S_ 32 15#32),
   binary main_v6 main_c_25 main_v35 (addi : (⟨S_, .i32⟩ : BufTy).Contents (Elt F) → (⟨S_, .i32⟩ : BufTy).Contents (Elt F) → (⟨S_, .i32⟩ : BufTy).Contents (Elt F)),
   ternary main_v34 main_v35 main_v6 main_v36 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   unaryIndexed main_arg2 ![main_v33, main_v36] ⟨S_, .i32⟩ main_v37 ((fun x i => Host.dynamicSlice S1x1 x (fun k => (i k (Shape.Idx.first h_S_)).toInt) sliceFits_S4x15_S1x1) : (⟨S4x15, .f32⟩ : BufTy).Contents (Elt F) → (Fin 2 → (⟨S_, .i32⟩ : BufTy).Contents (Elt F)) → (⟨S1x1, .f32⟩ : BufTy).Contents (Elt F)),
   reshape main_v37 main_v38 (rfl : (.f32 : EltTy) = .f32) shapeCasts_S1x1_S_,
   binary main_v12 main_v12 main_v39 (mulf : (⟨S_, .f32⟩ : BufTy).Contents (Elt F) → (⟨S_, .f32⟩ : BufTy).Contents (Elt F) → (⟨S_, .f32⟩ : BufTy).Contents (Elt F)),
   binary main_v38 main_v39 main_v40 (mulf : (⟨S_, .f32⟩ : BufTy).Contents (Elt F) → (⟨S_, .f32⟩ : BufTy).Contents (Elt F) → (⟨S_, .f32⟩ : BufTy).Contents (Elt F)),
   binary main_v30 main_v40 main_v41 (addf : (⟨S_, .f32⟩ : BufTy).Contents (Elt F) → (⟨S_, .f32⟩ : BufTy).Contents (Elt F) → (⟨S_, .f32⟩ : BufTy).Contents (Elt F))]
/-- Operations: row 0's term added. -/
def opsRow0 : List (HloOp τ sig (Elt F)) :=
  [nullary main_c_26 (constantI S_ 32 0#32),
   nullary main_c_27 (constantI S_ 32 0#32),
   binary main_c_26 main_c_27 main_v42 (cmpi .slt : (⟨S_, .i32⟩ : BufTy).Contents (Elt F) → (⟨S_, .i32⟩ : BufTy).Contents (Elt F) → (⟨S_, .i1⟩ : BufTy).Contents (Elt F)),
   nullary main_c_28 (constantI S_ 32 0#32),
   nullary main_c_29 (constantI S_ 32 4#32),
   binary main_c_28 main_c_29 main_v43 (addi : (⟨S_, .i32⟩ : BufTy).Contents (Elt F) → (⟨S_, .i32⟩ : BufTy).Contents (Elt F) → (⟨S_, .i32⟩ : BufTy).Contents (Elt F)),
   nullary main_c_30 (constantI S_ 32 0#32),
   ternary main_v42 main_v43 main_c_30 main_v44 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   nullary main_c_31 (constantI S_ 32 0#32),
   binary main_v6 main_c_31 main_v45 (cmpi .slt : (⟨S_, .i32⟩ : BufTy).Contents (Elt F) → (⟨S_, .i32⟩ : BufTy).Contents (Elt F) → (⟨S_, .i1⟩ : BufTy).Contents (Elt F)),
   nullary main_c_32 (constantI S_ 32 15#32),
   binary main_v6 main_c_32 main_v46 (addi : (⟨S_, .i32⟩ : BufTy).Contents (Elt F) → (⟨S_, .i32⟩ : BufTy).Contents (Elt F) → (⟨S_, .i32⟩ : BufTy).Contents (Elt F)),
   ternary main_v45 main_v46 main_v6 main_v47 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   unaryIndexed main_arg2 ![main_v44, main_v47] ⟨S_, .i32⟩ main_v48 ((fun x i => Host.dynamicSlice S1x1 x (fun k => (i k (Shape.Idx.first h_S_)).toInt) sliceFits_S4x15_S1x1) : (⟨S4x15, .f32⟩ : BufTy).Contents (Elt F) → (Fin 2 → (⟨S_, .i32⟩ : BufTy).Contents (Elt F)) → (⟨S1x1, .f32⟩ : BufTy).Contents (Elt F)),
   reshape main_v48 main_v49 (rfl : (.f32 : EltTy) = .f32) shapeCasts_S1x1_S_,
   binary main_v12 main_v12 main_v50 (mulf : (⟨S_, .f32⟩ : BufTy).Contents (Elt F) → (⟨S_, .f32⟩ : BufTy).Contents (Elt F) → (⟨S_, .f32⟩ : BufTy).Contents (Elt F)),
   binary main_v50 main_v12 main_v51 (mulf : (⟨S_, .f32⟩ : BufTy).Contents (Elt F) → (⟨S_, .f32⟩ : BufTy).Contents (Elt F) → (⟨S_, .f32⟩ : BufTy).Contents (Elt F)),
   binary main_v49 main_v51 main_v52 (mulf : (⟨S_, .f32⟩ : BufTy).Contents (Elt F) → (⟨S_, .f32⟩ : BufTy).Contents (Elt F) → (⟨S_, .f32⟩ : BufTy).Contents (Elt F)),
   binary main_v41 main_v52 main_v53 (addf : (⟨S_, .f32⟩ : BufTy).Contents (Elt F) → (⟨S_, .f32⟩ : BufTy).Contents (Elt F) → (⟨S_, .f32⟩ : BufTy).Contents (Elt F))]
/-- Operations: the cut at the last knot. -/
def opsCut : List (HloOp τ sig (Elt F)) :=
  [unary main_arg1 main_v54 ((extractStridedSlice S1 ![15] · slices_S16_S1_15) : (⟨S16, .f32⟩ : BufTy).Contents (Elt F) → (⟨S1, .f32⟩ : BufTy).Contents (Elt F)),
   reshape main_v54 main_v55 (rfl : (.f32 : EltTy) = .f32) shapeCasts_S1_S_,
   binary main_v0 main_v55 main_v56 (cmpf .olt : (⟨S_, .f32⟩ : BufTy).Contents (Elt F) → (⟨S_, .f32⟩ : BufTy).Contents (Elt F) → (⟨S_, .i1⟩ : BufTy).Contents (Elt F)),
   nullary main_cst (constant S_ .f32 0x00000000#32),
   TRef.ternary (TRef.of (T := ⟨S_, .i1⟩) main_v56) (TRef.of (T := ⟨S_, .f32⟩) main_v53) (TRef.of (T := ⟨S_, .f32⟩) main_cst) (TRef.of (T := ⟨S_, .f32⟩) main_v57) select]

/-- All of them, in order. -/
def ops : List (HloOp τ sig (Elt F)) := opsIndex ++ (opsDist ++ (opsRow3 ++ (opsRow2 ++ (opsRow1 ++ (opsRow0 ++ opsCut)))))

theorem after_two (l₁ l₂ : List (HloOp τ sig (Elt F))) (V : Valuation τ sig (Elt F)) : after (l₁ ++ l₂) V = after l₂ (after l₁ V) := by
  induction l₁ generalizing V with
  | nil => rfl
  | cons op l ih => exact ih (op.result V)

/-- A buffer of the reference, as its device knows it. -/
abbrev ref (b : Ref sig .tc) : DevRef τ sig := Proc.devRef .tc b

variable (V : Valuation τ sig (Elt F))

theorem opsIndex_v0 : after opsIndex V (ref main_v0) = point (V (ref main_arg0)) := by
  unfold opsIndex
  after_results
  rfl
theorem opsIndex_v6 : after opsIndex V (ref main_v6) = clipped (V (ref main_arg0)) (V (ref main_arg1)) := by
  unfold opsIndex
  after_results
  rfl
theorem opsDist_v12 : after opsDist V (ref main_v12) = subf (V (ref main_v0) : FVec F S_ .f32) (knotAt (V (ref main_arg1)) (V (ref main_v6))) := by
  unfold opsDist
  after_results_simp_entrywise
  rfl
theorem opsRow3_v20 : after opsRow3 V (ref main_v20) = coefAt (V (ref main_arg2)) 3#32 (V (ref main_v6)) := by
  unfold opsRow3
  after_results_simp_entrywise
  rfl
theorem opsRow2_v30 : after opsRow2 V (ref main_v30) = addf (V (ref main_v20) : FVec F S_ .f32) (mulf (coefAt (V (ref main_arg2)) 2#32 (V (ref main_v6))) (V (ref main_v12))) := by
  unfold opsRow2
  after_results_simp_entrywise
  rfl
theorem opsRow1_v41 : after opsRow1 V (ref main_v41) = addf (V (ref main_v30) : FVec F S_ .f32) (mulf (coefAt (V (ref main_arg2)) 1#32 (V (ref main_v6))) (mulf (V (ref main_v12) : FVec F S_ .f32) (V (ref main_v12)))) := by
  unfold opsRow1
  after_results_simp_entrywise
  rfl
theorem opsRow0_v53 : after opsRow0 V (ref main_v53) = addf (V (ref main_v41) : FVec F S_ .f32) (mulf (coefAt (V (ref main_arg2)) 0#32 (V (ref main_v6))) (mulf (mulf (V (ref main_v12) : FVec F S_ .f32) (V (ref main_v12))) (V (ref main_v12)))) := by
  unfold opsRow0
  after_results_simp_entrywise
  rfl
theorem opsCut_v57 : after opsCut V (ref main_v57) = select (cmpf .olt (V (ref main_v0) : FVec F S_ .f32) (lastKnot (V (ref main_arg1)))) (V (ref main_v53)) (constant S_ .f32 0x00000000#32) := by
  unfold opsCut
  after_results
  rfl
/-- What these operations leave alone. -/
theorem opsIndex_keeps : after opsIndex V (ref main_arg0) = V (ref main_arg0)
    ∧ after opsIndex V (ref main_arg1) = V (ref main_arg1)
    ∧ after opsIndex V (ref main_arg2) = V (ref main_arg2) := by
  unfold opsIndex
  and_intros <;> after_results
/-- What these operations leave alone. -/
theorem opsDist_keeps : after opsDist V (ref main_arg0) = V (ref main_arg0)
    ∧ after opsDist V (ref main_arg1) = V (ref main_arg1)
    ∧ after opsDist V (ref main_arg2) = V (ref main_arg2)
    ∧ after opsDist V (ref main_v0) = V (ref main_v0)
    ∧ after opsDist V (ref main_v6) = V (ref main_v6) := by
  unfold opsDist
  and_intros <;> after_results
/-- What these operations leave alone. -/
theorem opsRow3_keeps : after opsRow3 V (ref main_arg0) = V (ref main_arg0)
    ∧ after opsRow3 V (ref main_arg1) = V (ref main_arg1)
    ∧ after opsRow3 V (ref main_arg2) = V (ref main_arg2)
    ∧ after opsRow3 V (ref main_v0) = V (ref main_v0)
    ∧ after opsRow3 V (ref main_v6) = V (ref main_v6)
    ∧ after opsRow3 V (ref main_v12) = V (ref main_v12) := by
  unfold opsRow3
  and_intros <;> after_results
/-- What these operations leave alone. -/
theorem opsRow2_keeps : after opsRow2 V (ref main_arg0) = V (ref main_arg0)
    ∧ after opsRow2 V (ref main_arg1) = V (ref main_arg1)
    ∧ after opsRow2 V (ref main_arg2) = V (ref main_arg2)
    ∧ after opsRow2 V (ref main_v0) = V (ref main_v0)
    ∧ after opsRow2 V (ref main_v6) = V (ref main_v6)
    ∧ after opsRow2 V (ref main_v12) = V (ref main_v12) := by
  unfold opsRow2
  and_intros <;> after_results
/-- What these operations leave alone. -/
theorem opsRow1_keeps : after opsRow1 V (ref main_arg0) = V (ref main_arg0)
    ∧ after opsRow1 V (ref main_arg1) = V (ref main_arg1)
    ∧ after opsRow1 V (ref main_arg2) = V (ref main_arg2)
    ∧ after opsRow1 V (ref main_v0) = V (ref main_v0)
    ∧ after opsRow1 V (ref main_v6) = V (ref main_v6)
    ∧ after opsRow1 V (ref main_v12) = V (ref main_v12) := by
  unfold opsRow1
  and_intros <;> after_results
/-- What these operations leave alone. -/
theorem opsRow0_keeps : after opsRow0 V (ref main_arg0) = V (ref main_arg0)
    ∧ after opsRow0 V (ref main_arg1) = V (ref main_arg1)
    ∧ after opsRow0 V (ref main_arg2) = V (ref main_arg2)
    ∧ after opsRow0 V (ref main_v0) = V (ref main_v0) := by
  unfold opsRow0
  and_intros <;> after_results
/-- What these operations leave alone. -/
theorem opsCut_keeps : after opsCut V (ref main_arg0) = V (ref main_arg0)
    ∧ after opsCut V (ref main_arg1) = V (ref main_arg1)
    ∧ after opsCut V (ref main_arg2) = V (ref main_arg2) := by
  unfold opsCut
  and_intros <;> after_results

/-! ## The whole -/

theorem ops_out : after ops V (ref main_v57) = result (V (ref main_arg0)) (V (ref main_arg1)) (V (ref main_arg2)) := by
  obtain ⟨i0, i1, i2⟩ := opsIndex_keeps V
  obtain ⟨_, d1, d2, dp, di⟩ := opsDist_keeps (after opsIndex V)
  obtain ⟨_, c1, c2, cp, ci, ct⟩ := opsRow3_keeps (after opsDist (after opsIndex V))
  obtain ⟨_, q1, q2, qp, qi, qt⟩ := opsRow2_keeps (after opsRow3 (after opsDist (after opsIndex V)))
  obtain ⟨_, l1, l2, lp, li, lt⟩ := opsRow1_keeps (after opsRow2 (after opsRow3 (after opsDist (after opsIndex V))))
  obtain ⟨_, z1, _, zp⟩ := opsRow0_keeps (after opsRow1 (after opsRow2 (after opsRow3 (after opsDist (after opsIndex V)))))
  unfold ops
  simp only [after_two]
  rw [opsCut_v57, opsRow0_v53, zp, z1, opsRow1_v41, lp, l1, l2, li, lt, opsRow2_v30, qp, q1, q2, qi, qt, opsRow3_v20, cp, c1, c2, ci, ct,
    opsDist_v12, dp, d1, d2, di, opsIndex_v0, opsIndex_v6, i1, i2]
  rfl

theorem ops_args : after ops V (ref main_arg0) = V (ref main_arg0) ∧ after ops V (ref main_arg1) = V (ref main_arg1)
    ∧ after ops V (ref main_arg2) = V (ref main_arg2) := by
  unfold ops
  simp only [after_two]
  refine ⟨?_, ?_, ?_⟩
  · rw [(opsCut_keeps _).1, (opsRow0_keeps _).1, (opsRow1_keeps _).1, (opsRow2_keeps _).1, (opsRow3_keeps _).1, (opsDist_keeps _).1, (opsIndex_keeps _).1]
  · rw [(opsCut_keeps _).2.1, (opsRow0_keeps _).2.1, (opsRow1_keeps _).2.1, (opsRow2_keeps _).2.1, (opsRow3_keeps _).2.1, (opsDist_keeps _).2.1,
      (opsIndex_keeps _).2.1]
  · rw [(opsCut_keeps _).2.2, (opsRow0_keeps _).2.2.1, (opsRow1_keeps _).2.2.1, (opsRow2_keeps _).2.2.1, (opsRow3_keeps _).2.2.1,
      (opsDist_keeps _).2.2.1, (opsIndex_keeps _).2.2]

theorem bufs_sub : (ops (F := F)).Forall fun op => op.bufs ⊆ tcRefs τ sig := by
  unfold ops
  simp only [List.forall_append]
  refine ⟨?_, ?_, ?_, ?_, ?_, ?_, ?_⟩
  · unfold opsIndex; simp [TRef.unary, TRef.binary, TRef.ternary, TRef.of]
  · unfold opsDist; simp
  · unfold opsRow3; simp
  · unfold opsRow2; simp
  · unfold opsRow1; simp
  · unfold opsRow0; simp
  · unfold opsCut; simp [TRef.unary, TRef.binary, TRef.ternary, TRef.of]

set_option maxRecDepth 8192 in
set_option maxHeartbeats 4000000 in
theorem main_eq (d : Dev nD) : main (F := F) d = seq ops := rfl

theorem no_fresh : ∀ op ∈ ops (F := F), op.fresh = ∅ := by
  intro _ h; (repeat (cases h with | head => rfl | tail _ h => ?_)); exact nomatch h

/-- The reference's run: it ends with its result at `result` of its arguments, the arguments as they were, and every
    counter at zero, for it has no semaphore. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v57)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c main_v57).trans (ops_out _), (h c main_arg0).trans (ops_args _).1,
      (h c main_arg1).trans (ops_args _).2.1, (h c main_arg2).trans (ops_args _).2.2⟩, sem_eq_zero_of_no_sems rfl r.2⟩)
    (run_seq (by decide) (by decide) defs main (fun _ => ops) main_eq (fun _ => bufs_sub) m ρ (fun _ => no_fresh))

end Cert.Proof.Ref

end
-- ==== Proof.Value.lean ====
/- The reference's result, read at its one index: its reduction counts the knots not above the point, its clamp names
   the same interval as the kernel's, its reads fall inside the knots and the coefficients, and so its result is the
   interval's cubic as a sum of powers.  This is over the extended reals, where the arithmetic of a scalar and that of an
   array are one. -/
module

public import proofs.«01_k».proof.Proof.Table
public import proofs.«01_k».proof.Proof.Reference
public import Idealize.ShloMosaic.Lib.DynamicIndex
public import Idealize.ShloMosaic.Lib.StableHlo.Predicate

@[expose] public section

noncomputable section

namespace Cert.Proof.Ref

open Cert.ReferenceIdeal Cert.ReferenceIdeal.Gen
open Idealize.ShloMosaic
open Cert.Proof.Run (pt knot coef below interval)

variable (b : FVec Ideal S1 .f32) (xs : FVec Ideal S16 .f32) (c : FVec Ideal S4x15 .f32)

theorem point_apply (j : S_.Idx) : point b j = b pt := by
  refine shapeCast_apply _ _ _ _ ?_
  rw [Shape.rowMajor_val_one]
  have := (S_.rowMajor j).isLt
  have h1 : S_.numel = 1 := rfl
  show 0 = _
  omega

theorem lastKnot_apply (j : S_.Idx) : lastKnot xs j = xs (knot 15) := by
  refine (shapeCast_apply _ _ _ pt ?_).trans ?_
  · rw [Shape.rowMajor_val_one]
    have := (S_.rowMajor j).isLt
    have h1 : S_.numel = 1 := rfl
    show 0 = _
    omega
  · refine extractStridedSlice_apply _ _ _ _ (knot 15) ?_
    intro a; fin_cases a; rfl

/-- The knots' sixteen positions, as numbers below sixteen. -/
def positions : S16.Idx ≃ Fin 16 where
  toFun i := i 0
  invFun := knot
  left_inv i := by funext a; fin_cases a; rfl
  right_inv _ := rfl

/-- The reduction counts the knots not above the point. -/
theorem count_toNat (j : S_.Idx) : (count b xs j).toNat = Index.hits (below b xs) := by
  have hw : ∀ i : S16.Idx, (extui 32 (cmpf .ole xs (broadcastInDim S16 ![] bcast_S_S16 (point b))) natLt_1_32 i).toNat
      = (below b xs (positions i)).toNat := by
    intro i
    have hi : knot (positions i) = i := positions.left_inv i
    have e : cmpf .ole xs (broadcastInDim S16 ![] bcast_S_S16 (point b)) i = below b xs (positions i) := by
      unfold below
      rw [hi]
      exact congrArg (Ideal.cmp .ole (xs i)) (point_apply b _)
    show ((cmpf .ole xs (broadcastInDim S16 ![] bcast_S_S16 (point b)) i).setWidth 32).toNat = _
    rw [e]
    generalize below b xs (positions i) = w
    revert w; decide
  have hs : ∑ i : S16.Idx, (extui 32 (cmpf .ole xs (broadcastInDim S16 ![] bcast_S_S16 (point b))) natLt_1_32 i).toNat
      = Index.hits (below b xs) := by
    rw [Finset.sum_congr rfl fun i _ => hw i]
    exact Equiv.sum_comp positions fun q => (below b xs q).toNat
  unfold count
  rw [Host.reduce_eq_fold, Finset.filter_true_of_mem (fun i _ => funext fun a => a.elim0)]
  show (Finset.fold IntOp.addi 0#32 _ _).toNat = _
  rw [StableHlo.Predicate.toNat_fold_addi _ _ (by rw [hs]; exact lt_of_le_of_lt (Index.hits_le _) (by decide)), hs]

/-- The clipped count is the kernel's interval. -/
theorem clipped_apply (j : S_.Idx) : clipped b xs j = BitVec.ofNat 32 (interval b xs).val := by
  have hc : ∀ n, n ≤ 16 → IntOp.minsi 14#32 (IntOp.maxsi 0#32 (IntOp.subi (BitVec.ofNat 32 n) 1#32)) = BitVec.ofNat 32 (min 14 (n - 1)) := by
    decide
  have e := hc _ (Index.hits_le (below b xs))
  rw [← count_toNat b xs j, BitVec.ofNat_toNat, BitVec.setWidth_eq, count_toNat] at e
  exact e

/-- An index below the middle of its range is not counted from the end. -/
theorem wrapped_apply (n : BitVec 32) (i : IVec S_ 32) (j : S_.Idx) (k : ℕ) (hk : k < 2 ^ 31) (h : i j = BitVec.ofNat 32 k) :
    (wrapped n i j).toInt = (k : Int) := by
  unfold wrapped
  rw [select_slt_zero_of_nonneg _ _ _ j (by rw [h, toInt_ofNat_of_lt hk]; omega), h, toInt_ofNat_of_lt hk]

theorem knotAt_apply (i : IVec S_ 32) (k : Fin 16) (h : ∀ j, i j = BitVec.ofNat 32 k.val) (j : S_.Idx) : knotAt xs i j = xs (knot k) := by
  have hk := k.isLt
  have hf : S16.Slices ![k.val] S1 := ⟨rfl, fun a => by fin_cases a; show k.val + 1 ≤ 16; omega⟩
  unfold knotAt
  rw [Host.dynamicSlice_eq_extractStridedSlice S1 xs _ ![k.val] _ hf (by
    intro a; fin_cases a
    exact wrapped_apply 16#32 i _ k.val (by omega) (h _))]
  refine (shapeCast_apply _ _ _ pt ?_).trans ?_
  · rw [Shape.rowMajor_val_one]
    have := (S_.rowMajor j).isLt
    have h1 : S_.numel = 1 := rfl
    show 0 = _
    omega
  · refine extractStridedSlice_apply _ _ _ _ (knot k) ?_
    intro a; fin_cases a; rfl

theorem coefAt_apply (r : Fin 4) (w : BitVec 32) (hw : w = BitVec.ofNat 32 r.val) (i : IVec S_ 32) (k : Fin 15) (h : ∀ j, i j = BitVec.ofNat 32 k.val)
    (j : S_.Idx) : coefAt c w i j = c (coef r k) := by
  have hk := k.isLt
  have hr := r.isLt
  have hf : S4x15.Slices ![r.val, k.val] S1x1 := ⟨rfl, fun a => by
    fin_cases a
    · show r.val + 1 ≤ 4; omega
    · show k.val + 1 ≤ 15; omega⟩
  unfold coefAt
  rw [Host.dynamicSlice_eq_extractStridedSlice S1x1 c _ ![r.val, k.val] _ hf (by
    intro a; fin_cases a
    · exact wrapped_apply 4#32 _ _ r.val (by omega) hw
    · exact wrapped_apply 15#32 i _ k.val (by omega) (h _))]
  refine (shapeCast_apply _ _ _ (fun | 0 => (0 : Fin 1) | 1 => (0 : Fin 1) : S1x1.Idx) ?_).trans ?_
  · rw [Shape.rowMajor_val_two]
    have := (S_.rowMajor j).isLt
    have h1 : S_.numel = 1 := rfl
    show 0 * 1 + 0 = _
    omega
  · refine extractStridedSlice_apply _ _ _ _ (coef r k) ?_
    intro a; fin_cases a <;> rfl

/-- The sum of powers of one interval, in the reference's own operations. -/
def powers (t c0 c1 c2 c3 : Ideal .f32) : Ideal .f32 :=
  Scalar.addf (Scalar.addf (Scalar.addf c3 (Scalar.mulf c2 t)) (Scalar.mulf c1 (Scalar.mulf t t))) (Scalar.mulf c0 (Scalar.mulf (Scalar.mulf t t) t))

/-- What the reference computes of a point, knots and coefficients. -/
theorem result_apply (j : S_.Idx) : result b xs c j
    = Scalar.select (Scalar.cmpf .olt (b pt) (xs (knot 15)))
        (powers (Scalar.subf (b pt) (xs (knot (interval b xs).castSucc))) (c (coef 0 (interval b xs))) (c (coef 1 (interval b xs)))
          (c (coef 2 (interval b xs))) (c (coef 3 (interval b xs))))
        (Scalar.ofBits .f32 0x00000000#32) := by
  have hi := clipped_apply b xs
  have hx := knotAt_apply xs (clipped b xs) (interval b xs).castSucc hi j
  have h0 := coefAt_apply c 0 0#32 (by decide) (clipped b xs) _ hi j
  have h1 := coefAt_apply c 1 1#32 (by decide) (clipped b xs) _ hi j
  have h2 := coefAt_apply c 2 2#32 (by decide) (clipped b xs) _ hi j
  have h3 := coefAt_apply c 3 3#32 (by decide) (clipped b xs) _ hi j
  rw [← hx, ← h0, ← h1, ← h2, ← h3, ← point_apply b j, ← lastKnot_apply xs j]
  rfl

end Cert.Proof.Ref

end
-- ==== Proof.Cubic.lean ====
/- Where the two programs' answers meet: with sorted knots the kernel's count falls short of sixteen exactly where the
   last knot is above the point, and with real numbers throughout Horner's rule and the sum of powers are one cubic. -/
module

public import proofs.«01_k».proof.Proof.Value
public import proofs.«01_k».proof.Proof.Gen.Pre_sorted_and_finite

@[expose] public section

noncomputable section

namespace Cert.Proof.Ref

open Cert.ReferenceIdeal Cert.ReferenceIdeal.Gen
open Idealize.ShloMosaic
open Cert.Proof.Run (pt knot coef below interval)

variable (b : FVec Ideal S1 .f32) (xs : FVec Ideal S16 .f32) (c : FVec Ideal S4x15 .f32)

/-! ## What the precondition says -/

/-- The pattern of the positive infinity. -/
theorem infinity : Ideal.ofBits .f32 0x7F800000#32 = ⊤ := by simp [Ideal.ofBits, Ideal.ieee]

/-- A number whose magnitude is below infinity is a real number. -/
theorem real_of_finite (x : EReal) (h : Ideal.cmp .olt (max x (-x)) (Ideal.ofBits .f32 0x7F800000#32) = 1#1) : ∃ r : ℝ, x = r := by
  rw [infinity] at h
  have hl : max x (-x) < ⊤ := of_decide_eq_true ((StableHlo.Predicate.ofBool_eq_one_iff _).1 h)
  have h1 := lt_of_le_of_lt (le_max_left _ _) hl
  have h2 := lt_of_le_of_lt (le_max_right _ _) hl
  induction x with
  | bot => simp at h2
  | top => simp at h1
  | coe r => exact ⟨r, rfl⟩

variable (h : (Cert.Pre_sorted_and_finite.fn (F := Ideal) b xs c).1 = (fun _ => 1#1)
  ∧ (Cert.Pre_sorted_and_finite.fn (F := Ideal) b xs c).2.1 = (fun _ => 1#1)
  ∧ (Cert.Pre_sorted_and_finite.fn (F := Ideal) b xs c).2.2.1 = (fun _ => 1#1)
  ∧ (Cert.Pre_sorted_and_finite.fn (F := Ideal) b xs c).2.2.2 = (fun _ => 1#1))

include h

theorem point_real : ∃ r : ℝ, b pt = r := real_of_finite _ (congrFun h.2.1 pt)
theorem knot_real (j : Fin 16) : ∃ r : ℝ, xs (knot j) = r := real_of_finite _ (congrFun h.2.2.1 (knot j))
theorem coef_real (r : Fin 4) (i : Fin 15) : ∃ v : ℝ, c (coef r i) = v := real_of_finite _ (congrFun h.2.2.2 (coef r i))

/-- Each knot is at most the next one, and so the knots rise. -/
theorem sorted : Monotone fun j : Fin 16 => (xs (knot j) : EReal) := by
  refine Fin.monotone_iff_le_succ.2 fun j => ?_
  have e := congrFun h.1 (fun | 0 => j)
  have l : Ideal.cmp .ole (extractStridedSlice (α := EReal) Cert.Pre_sorted_and_finite.S15 ![0] xs Cert.Pre_sorted_and_finite.Facts.slices_S16_S15_0 (fun | 0 => j))
      (extractStridedSlice (α := EReal) Cert.Pre_sorted_and_finite.S15 ![1] xs Cert.Pre_sorted_and_finite.Facts.slices_S16_S15_1 (fun | 0 => j)) = 1#1 := e
  rw [extractStridedSlice_apply ![0] xs _ _ (knot j.castSucc) (by intro a; fin_cases a; show j.val = 0 + j.val; omega),
    extractStridedSlice_apply ![1] xs _ _ (knot j.succ) (by intro a; fin_cases a; show j.val + 1 = 1 + j.val; omega)] at l
  exact of_decide_eq_true ((StableHlo.Predicate.ofBool_eq_one_iff _).1 l)

/-- The count falls short of sixteen exactly where the last knot is above the point. -/
theorem hits_lt : BitVec.ofBool (decide (Index.hits (below b xs) < 16)) = Scalar.cmpf .olt (b pt) (xs (knot 15)) := by
  have hm := sorted b xs c h
  show BitVec.ofBool _ = BitVec.ofBool (decide ((b pt : EReal) < xs (knot 15)))
  refine congrArg BitVec.ofBool (decide_eq_decide.2 ⟨fun hl => ?_, fun hl => ?_⟩)
  · by_contra hn
    have all : ∀ j, (below b xs j).toNat = 1 := fun j => by
      have hj : (xs (knot j) : EReal) ≤ b pt := (hm (Fin.le_last j)).trans (not_lt.1 hn)
      show (BitVec.ofBool (decide ((xs (knot j) : EReal) ≤ b pt))).toNat = 1
      rw [decide_eq_true hj]; rfl
    have : Index.hits (below b xs) = 16 := by
      unfold Index.hits
      rw [Finset.sum_congr rfl fun j _ => all j]
      simp
    omega
  · have last : (below b xs (Fin.last 15)).toNat = 0 := by
      show (BitVec.ofBool (decide ((xs (knot 15) : EReal) ≤ b pt))).toNat = 0
      rw [decide_eq_false (not_le.2 hl)]; rfl
    unfold Index.hits
    rw [Fin.sum_univ_castSucc, last]
    refine lt_of_le_of_lt (Nat.add_le_add_right (Finset.sum_le_card_nsmul _ _ 1 fun j _ => ?_) 0) (by simp)
    have := (below b xs j.castSucc).isLt
    omega

omit h in
/-- Over the real numbers Horner's rule is the sum of powers. -/
theorem horner (x k c0 c1 c2 c3 : ℝ) :
    Cert.KernelIdeal.Gen.k0_pay1 (F := Ideal) (x : EReal) (k : EReal) (c0 : EReal) (c1 : EReal) (c2 : EReal) (c3 : EReal)
      = powers (Scalar.subf (F := Ideal) (φ := .f32) (x : EReal) (k : EReal)) (c0 : EReal) (c1 : EReal) (c2 : EReal) (c3 : EReal) := by
  show ((c3 : EReal) + ((x : EReal) - k) * (c2 + ((x : EReal) - k) * (c1 + ((x : EReal) - k) * c0)) : EReal)
    = (c3 + c2 * ((x : EReal) - k)) + c1 * (((x : EReal) - k) * ((x : EReal) - k)) + c0 * ((((x : EReal) - k) * ((x : EReal) - k)) * ((x : EReal) - k))
  norm_cast
  ring

/-- The kernel's answer and the reference's are one. -/
theorem answers_agree (j : S_.Idx) : Run.out (Run.table b xs c) = result b xs c j := by
  rw [result_apply, Run.out_table, hits_lt b xs c h]
  obtain ⟨x, hx⟩ := point_real b xs c h
  obtain ⟨k, hk⟩ := knot_real b xs c h (interval b xs).castSucc
  obtain ⟨c0, h0⟩ := coef_real b xs c h 0 (interval b xs)
  obtain ⟨c1, h1⟩ := coef_real b xs c h 1 (interval b xs)
  obtain ⟨c2, h2⟩ := coef_real b xs c h 2 (interval b xs)
  obtain ⟨c3, h3⟩ := coef_real b xs c h 3 (interval b xs)
  have e := horner x k c0 c1 c2 c3
  rw [← hk, ← h0, ← h1, ← h2, ← h3, ← hx] at e
  rw [e]

end Cert.Proof.Ref

end
-- ==== Proof.lean ====
/- The claims.  Every launch of the kernel runs, over any float values, leaves its arguments as they were and every counter
   at zero (Proof/Main.lean); its one result is the cubic of the point's interval by Horner's rule (Proof/Table.lean).
   The reference runs too (Proof/Reference.lean), its result is the same cubic as a sum of powers (Proof/Value.lean), and
   where the knots rise and everything is finite the two are equal over the extended reals (Proof/Cubic.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_sorted_and_finite
public import proofs.«01_k».proof.Proof.Cubic
public import Idealize.ShloMosaic.Adequacy
public import Idealize.ShloMosaic.Init

@[expose] public section

noncomputable section

namespace Cert.Proof

open Idealize.ShloMosaic Idealize.SL.Sem

/-- The kernel's run, read at its arguments and its result. -/
theorem kernel_run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v6)
          = (fun _ => Run.out (Run.table (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2))
      ∧ r.2.sem = fun _ => 0 :=
  (θ_run Cert.KernelIdeal.defs _ _).mono (fun r h => ⟨fun c =>
    ⟨(h.1 c _ (Finset.mem_filter.mpr ⟨StableHlo.devRef_mem_tcRefs Cert.KernelIdeal.main_v6, by decide⟩)).trans
        ((Run.V3_out m c).trans (by rw [Run.packed_eq])),
      (h.1 c _ (Finset.mem_filter.mpr ⟨StableHlo.devRef_mem_tcRefs Cert.KernelIdeal.main_arg0, by decide⟩)).trans (Run.V3_arg0 m c),
      (h.1 c _ (Finset.mem_filter.mpr ⟨StableHlo.devRef_mem_tcRefs Cert.KernelIdeal.main_arg1, by decide⟩)).trans (Run.V3_arg1 m c),
      (h.1 c _ (Finset.mem_filter.mpr ⟨StableHlo.devRef_mem_tcRefs Cert.KernelIdeal.main_arg2, by decide⟩)).trans (Run.V3_arg2 m c)⟩, h.2⟩)
    (Run.run_main m ρ)

theorem frame_kernel : Cert.quiescent_Kernel := fun m ρ _ =>
  (θ_run Cert.KernelIdeal.defs _ _).mono (fun _ h => ⟨fun c => (h.1 c).2, h.2⟩) (kernel_run (F := Bits) m ρ)

theorem frame_ideal : Cert.quiescent_KernelIdeal := fun m ρ _ =>
  (θ_run Cert.KernelIdeal.defs _ _).mono (fun _ h => ⟨fun c => (h.1 c).2, h.2⟩) (kernel_run (F := Ideal) m ρ)

theorem frame_reference : Cert.quiescent_ReferenceIdeal := fun m ρ _ =>
  (θ_run Cert.ReferenceIdeal.defs _ _).mono (fun _ h => ⟨fun c => (h.1 c).2, h.2⟩) (Ref.run (F := Ideal) m ρ)

/-- The kernel's result over the extended reals. -/
def answer (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v6) := fun _ =>
  Run.out (F := Ideal) (Run.table (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)))

/-- Over the extended reals, for rising knots and finite arguments, the kernel's result is the reference's. -/
theorem same_function : Cert.algebraic_KernelIdeal_ReferenceIdeal_pre_sorted_and_finite := by
  intro m ρ m' ρ' pre same
  refine ⟨answer m, (θ_run Cert.KernelIdeal.defs _ _).mono (fun _ h => h.1) (kernel_run (F := Ideal) m ρ),
    (θ_run Cert.ReferenceIdeal.defs _ _).mono (fun _ h c => ⟨(h.1 c).1.trans ?_, (h.1 c).2⟩) (Ref.run (F := Ideal) m' ρ')⟩
  rw [(same c).1, (same c).2.1, (same c).2.2]
  exact funext fun j => (Ref.answers_agree _ _ _ (pre c) j).symm

theorem claim : Cert.Claim :=
  ⟨Cert.Kernel.Gen.facts, Cert.KernelIdeal.Gen.facts, Cert.ReferenceIdeal.Gen.facts, Cert.Pre_sorted_and_finite.Gen.facts,
    frame_kernel, frame_ideal, fun m ρ _ => frame_ideal m ρ trivial, frame_reference, fun m ρ _ => frame_reference m ρ trivial, trivial,
    same_function⟩

end Cert.Proof

end
